-- ==== Defs.lean ====
def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_RefAttn1Ideal (m : (ℓ : Loc Cert.RefAttn1Ideal.nD Cert.RefAttn1Ideal.τ Cert.RefAttn1Ideal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_RefQkvIdeal (m : (ℓ : Loc Cert.RefQkvIdeal.nD Cert.RefQkvIdeal.τ Cert.RefQkvIdeal.sig) → Buf (Elt Ideal) ℓ) : Prop :=
  True

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0)
      ∧ r.2.mem ((c.tc : Thread Cert.Attn1.nD Cert.Attn1.τ).loc Cert.Attn1.main_arg1) = m ((c.tc : Thread Cert.Attn1.nD Cert.Attn1.τ).loc Cert.Attn1.main_arg1)
      ∧ r.2.mem ((c.tc : Thread Cert.Attn1.nD Cert.Attn1.τ).loc Cert.Attn1.main_arg2) = m ((c.tc : Thread Cert.Attn1.nD Cert.Attn1.τ).loc Cert.Attn1.main_arg2))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
      ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
      ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2))
      ∧ r.2.sem = fun _ => 0)

def quiescent_RefAttn1Ideal [hRefAttn1Ideal : Cert.RefAttn1Ideal.Facts] : Prop :=
  ∀ (m : (ℓ : Loc Cert.RefAttn1Ideal.nD Cert.RefAttn1Ideal.τ Cert.RefAttn1Ideal.sig) → Buf (Elt Ideal) ℓ) (g : Dev Cert.RefAttn1Ideal.nD → PrngReg), Pre_RefAttn1Ideal m →
    θ_run (Cert.RefAttn1Ideal.defs (F := Ideal)) (onTc (τ := Cert.RefAttn1Ideal.τ) (Cert.RefAttn1Ideal.main (F := Ideal))) ⟨m, fun _ => 0, g⟩ (fun r => (∀ c : Dev Cert.RefAttn1Ideal.nD,
      r.2.mem ((c.tc : Thread Cert.RefAttn1Ideal.nD Cert.RefAttn1Ideal.τ).loc Cert.RefAttn1Ideal.main_arg0) = m ((c.tc : Thread Cert.RefAttn1Ideal.nD Cert.RefAttn1Ideal.τ).loc Cert.RefAttn1Ideal.main_arg0)
      ∧ r.2.mem ((c.tc : Thread Cert.RefAttn1Ideal.nD Cert.RefAttn1Ideal.τ).loc Cert.RefAttn1Ideal.main_arg1) = m ((c.tc : Thread Cert.RefAttn1Ideal.nD Cert.RefAttn1Ideal.τ).loc Cert.RefAttn1Ideal.main_arg1)
      ∧ r.2.mem ((c.tc : Thread Cert.RefAttn1Ideal.nD Cert.RefAttn1Ideal.τ).loc Cert.RefAttn1Ideal.main_arg2) = m ((c.tc : Thread Cert.RefAttn1Ideal.nD Cert.RefAttn1Ideal.τ).loc Cert.RefAttn1Ideal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_RefQkvIdeal [hRefQkvIdeal : Cert.RefQkvIdeal.Facts] : Prop :=
  ∀ (m : (ℓ : Loc Cert.RefQkvIdeal.nD Cert.RefQkvIdeal.τ Cert.RefQkvIdeal.sig) → Buf (Elt Ideal) ℓ) (g : Dev Cert.RefQkvIdeal.nD → PrngReg), Pre_RefQkvIdeal m →
    θ_run (Cert.RefQkvIdeal.defs (F := Ideal)) (onTc (τ := Cert.RefQkvIdeal.τ) (Cert.RefQkvIdeal.main (F := Ideal))) ⟨m, fun _ => 0, g⟩ (fun r => (∀ c : Dev Cert.RefQkvIdeal.nD,
      r.2.mem ((c.tc : Thread Cert.RefQkvIdeal.nD Cert.RefQkvIdeal.τ).loc Cert.RefQkvIdeal.main_arg0) = m ((c.tc : Thread Cert.RefQkvIdeal.nD Cert.RefQkvIdeal.τ).loc Cert.RefQkvIdeal.main_arg0)
      ∧ r.2.mem ((c.tc : Thread Cert.RefQkvIdeal.nD Cert.RefQkvIdeal.τ).loc Cert.RefQkvIdeal.main_arg1) = m ((c.tc : Thread Cert.RefQkvIdeal.nD Cert.RefQkvIdeal.τ).loc Cert.RefQkvIdeal.main_arg1)
      ∧ r.2.mem ((c.tc : Thread Cert.RefQkvIdeal.nD Cert.RefQkvIdeal.τ).loc Cert.RefQkvIdeal.main_arg2) = m ((c.tc : Thread Cert.RefQkvIdeal.nD Cert.RefQkvIdeal.τ).loc Cert.RefQkvIdeal.main_arg2)
      ∧ r.2.mem ((c.tc : Thread Cert.RefQkvIdeal.nD Cert.RefQkvIdeal.τ).loc Cert.RefQkvIdeal.main_arg3) = m ((c.tc : Thread Cert.RefQkvIdeal.nD Cert.RefQkvIdeal.τ).loc Cert.RefQkvIdeal.main_arg3)
      ∧ r.2.mem ((c.tc : Thread Cert.RefQkvIdeal.nD Cert.RefQkvIdeal.τ).loc Cert.RefQkvIdeal.main_arg4) = m ((c.tc : Thread Cert.RefQkvIdeal.nD Cert.RefQkvIdeal.τ).loc Cert.RefQkvIdeal.main_arg4)
      ∧ r.2.mem ((c.tc : Thread Cert.RefQkvIdeal.nD Cert.RefQkvIdeal.τ).loc Cert.RefQkvIdeal.main_arg5) = m ((c.tc : Thread Cert.RefQkvIdeal.nD Cert.RefQkvIdeal.τ).loc Cert.RefQkvIdeal.main_arg5)
      ∧ r.2.mem ((c.tc : Thread Cert.RefQkvIdeal.nD Cert.RefQkvIdeal.τ).loc Cert.RefQkvIdeal.main_arg6) = m ((c.tc : Thread Cert.RefQkvIdeal.nD Cert.RefQkvIdeal.τ).loc Cert.RefQkvIdeal.main_arg6))
      ∧ r.2.sem = fun _ => 0)

def preserves_Attn1_Attn1Ideal : Prop :=
  IdealRules.named_const.Statement Cert.Attn1Ideal.κ "mask" .f32 0xF149F2CA#32 ⊥
  ∧ IdealRules.named_const.Statement Cert.Attn1Ideal.κ "scale2" .f32 0x3E0293EE#32 (((Real.log 2)⁻¹ * (Real.sqrt 128)⁻¹ : ℝ) : EReal)
  ∧ IdealRules.named_const.Statement Cert.Attn1Ideal.κ "ln2" .f32 0x3F317218#32 ((Real.log 2 : ℝ) : EReal)

def algebraic_Attn1Ideal_RefAttn1Ideal [hAttn1Ideal : Cert.Attn1Ideal.Facts] [hRefAttn1Ideal : Cert.RefAttn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.RefAttn1Ideal.nD Cert.RefAttn1Ideal.τ Cert.RefAttn1Ideal.sig) → Buf (Elt Ideal) ℓ) (g' : Dev Cert.RefAttn1Ideal.nD → PrngReg), Pre_Attn1Ideal m →
    (∀ c : Dev Cert.Attn1Ideal.nD,
      m' ((c.tc : Thread Cert.RefAttn1Ideal.nD Cert.RefAttn1Ideal.τ).loc Cert.RefAttn1Ideal.main_arg0) = m ((c.tc : Thread Cert.Attn1Ideal.nD Cert.Attn1Ideal.τ).loc Cert.Attn1Ideal.main_arg0)
      ∧ m' ((c.tc : Thread Cert.RefAttn1Ideal.nD Cert.RefAttn1Ideal.τ).loc Cert.RefAttn1Ideal.main_arg1) = m ((c.tc : Thread Cert.Attn1Ideal.nD Cert.Attn1Ideal.τ).loc Cert.Attn1Ideal.main_arg1)
      ∧ m' ((c.tc : Thread Cert.RefAttn1Ideal.nD Cert.RefAttn1Ideal.τ).loc Cert.RefAttn1Ideal.main_arg2) = m ((c.tc : Thread Cert.Attn1Ideal.nD Cert.Attn1Ideal.τ).loc Cert.Attn1Ideal.main_arg2)) →
    ∃ (v0 : (c : Dev Cert.Attn1Ideal.nD) → Buf (Elt Ideal) ((c.tc : Thread Cert.Attn1Ideal.nD Cert.Attn1Ideal.τ).loc Cert.Attn1Ideal.main_v5_0)) (v1 : (c : Dev Cert.Attn1Ideal.nD) → Buf (Elt Ideal) ((c.tc : Thread Cert.Attn1Ideal.nD Cert.Attn1Ideal.τ).loc Cert.Attn1Ideal.main_v5_1)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v5_0) = v0 c
          ∧ r.2.mem ((c.tc : Thread Cert.Attn1Ideal.nD Cert.Attn1Ideal.τ).loc Cert.Attn1Ideal.main_v5_1) = v1 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
          ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
          ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2))
      ∧ θ_run (Cert.RefAttn1Ideal.defs (F := Ideal)) (onTc (τ := Cert.RefAttn1Ideal.τ) (Cert.RefAttn1Ideal.main (F := Ideal))) ⟨m', fun _ => 0, g'⟩ (fun r => ∀ c : Dev Cert.RefAttn1Ideal.nD,
          r.2.mem ((c.tc : Thread Cert.RefAttn1Ideal.nD Cert.RefAttn1Ideal.τ).loc Cert.RefAttn1Ideal.main_v73) = v0 c
          ∧ r.2.mem ((c.tc : Thread Cert.RefAttn1Ideal.nD Cert.RefAttn1Ideal.τ).loc Cert.RefAttn1Ideal.main_v79) = v1 c
          ∧ r.2.mem ((c.tc : Thread Cert.RefAttn1Ideal.nD Cert.RefAttn1Ideal.τ).loc Cert.RefAttn1Ideal.main_arg0) = m' ((c.tc : Thread Cert.RefAttn1Ideal.nD Cert.RefAttn1Ideal.τ).loc Cert.RefAttn1Ideal.main_arg0)
          ∧ r.2.mem ((c.tc : Thread Cert.RefAttn1Ideal.nD Cert.RefAttn1Ideal.τ).loc Cert.RefAttn1Ideal.main_arg1) = m' ((c.tc : Thread Cert.RefAttn1Ideal.nD Cert.RefAttn1Ideal.τ).loc Cert.RefAttn1Ideal.main_arg1)
          ∧ r.2.mem ((c.tc : Thread Cert.RefAttn1Ideal.nD Cert.RefAttn1Ideal.τ).loc Cert.RefAttn1Ideal.main_arg2) = m' ((c.tc : Thread Cert.RefAttn1Ideal.nD Cert.RefAttn1Ideal.τ).loc Cert.RefAttn1Ideal.main_arg2))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v11) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v5) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2))

def preserves_Qkv_QkvIdeal : Prop :=
  True

def algebraic_QkvIdeal_RefQkvIdeal [hQkvIdeal : Cert.QkvIdeal.Facts] [hRefQkvIdeal : Cert.RefQkvIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.RefQkvIdeal.nD Cert.RefQkvIdeal.τ Cert.RefQkvIdeal.sig) → Buf (Elt Ideal) ℓ) (g' : Dev Cert.RefQkvIdeal.nD → PrngReg), Pre_QkvIdeal m →
    (∀ c : Dev Cert.QkvIdeal.nD,
      m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0)
      ∧ m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1)
      ∧ m' ((c.tc : Thread Cert.RefQkvIdeal.nD Cert.RefQkvIdeal.τ).loc Cert.RefQkvIdeal.main_arg2) = m ((c.tc : Thread Cert.QkvIdeal.nD Cert.QkvIdeal.τ).loc Cert.QkvIdeal.main_arg2)
      ∧ m' ((c.tc : Thread Cert.RefQkvIdeal.nD Cert.RefQkvIdeal.τ).loc Cert.RefQkvIdeal.main_arg3) = m ((c.tc : Thread Cert.QkvIdeal.nD Cert.QkvIdeal.τ).loc Cert.QkvIdeal.main_arg3)
      ∧ m' ((c.tc : Thread Cert.RefQkvIdeal.nD Cert.RefQkvIdeal.τ).loc Cert.RefQkvIdeal.main_arg4) = m ((c.tc : Thread Cert.QkvIdeal.nD Cert.QkvIdeal.τ).loc Cert.QkvIdeal.main_arg4)
      ∧ m' ((c.tc : Thread Cert.RefQkvIdeal.nD Cert.RefQkvIdeal.τ).loc Cert.RefQkvIdeal.main_arg5) = m ((c.tc : Thread Cert.QkvIdeal.nD Cert.QkvIdeal.τ).loc Cert.QkvIdeal.main_arg5)
      ∧ m' ((c.tc : Thread Cert.RefQkvIdeal.nD Cert.RefQkvIdeal.τ).loc Cert.RefQkvIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v35_0)) (v1 : (c : Dev Cert.QkvIdeal.nD) → Buf (Elt Ideal) ((c.tc : Thread Cert.QkvIdeal.nD Cert.QkvIdeal.τ).loc Cert.QkvIdeal.main_v35_1)) (v2 : (c : Dev Cert.QkvIdeal.nD) → Buf (Elt Ideal) ((c.tc : Thread Cert.QkvIdeal.nD Cert.QkvIdeal.τ).loc Cert.QkvIdeal.main_v35_2)) (v3 : (c : Dev Cert.QkvIdeal.nD) → Buf (Elt Ideal) ((c.tc : Thread Cert.QkvIdeal.nD Cert.QkvIdeal.τ).loc Cert.QkvIdeal.main_v35_3)) (v4 : (c : Dev Cert.QkvIdeal.nD) → Buf (Elt Ideal) ((c.tc : Thread Cert.QkvIdeal.nD Cert.QkvIdeal.τ).loc Cert.QkvIdeal.main_v35_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v35_0) = v0 c
          ∧ r.2.mem ((c.tc : Thread Cert.QkvIdeal.nD Cert.QkvIdeal.τ).loc Cert.QkvIdeal.main_v35_1) = v1 c
          ∧ r.2.mem ((c.tc : Thread Cert.QkvIdeal.nD Cert.QkvIdeal.τ).loc Cert.QkvIdeal.main_v35_2) = v2 c
          ∧ r.2.mem ((c.tc : Thread Cert.QkvIdeal.nD Cert.QkvIdeal.τ).loc Cert.QkvIdeal.main_v35_3) = v3 c
          ∧ r.2.mem ((c.tc : Thread Cert.QkvIdeal.nD Cert.QkvIdeal.τ).loc Cert.QkvIdeal.main_v35_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.RefQkvIdeal.defs (F := Ideal)) (onTc (τ := Cert.RefQkvIdeal.τ) (Cert.RefQkvIdeal.main (F := Ideal))) ⟨m', fun _ => 0, g'⟩ (fun r => ∀ c : Dev Cert.RefQkvIdeal.nD,
          r.2.mem ((c.tc : Thread Cert.RefQkvIdeal.nD Cert.RefQkvIdeal.τ).loc Cert.RefQkvIdeal.main_v153) = v0 c
          ∧ r.2.mem ((c.tc : Thread Cert.RefQkvIdeal.nD Cert.RefQkvIdeal.τ).loc Cert.RefQkvIdeal.main_v154) = v1 c
          ∧ r.2.mem ((c.tc : Thread Cert.RefQkvIdeal.nD Cert.RefQkvIdeal.τ).loc Cert.RefQkvIdeal.main_v112) = v2 c
          ∧ r.2.mem ((c.tc : Thread Cert.RefQkvIdeal.nD Cert.RefQkvIdeal.τ).loc Cert.RefQkvIdeal.main_v151) = v3 c
          ∧ r.2.mem ((c.tc : Thread Cert.RefQkvIdeal.nD Cert.RefQkvIdeal.τ).loc Cert.RefQkvIdeal.main_v156) = v4 c
          ∧ r.2.mem ((c.tc : Thread Cert.RefQkvIdeal.nD Cert.RefQkvIdeal.τ).loc Cert.RefQkvIdeal.main_arg0) = m' ((c.tc : Thread Cert.RefQkvIdeal.nD Cert.RefQkvIdeal.τ).loc Cert.RefQkvIdeal.main_arg0)
          ∧ r.2.mem ((c.tc : Thread Cert.RefQkvIdeal.nD Cert.RefQkvIdeal.τ).loc Cert.RefQkvIdeal.main_arg1) = m' ((c.tc : Thread Cert.RefQkvIdeal.nD Cert.RefQkvIdeal.τ).loc Cert.RefQkvIdeal.main_arg1)
          ∧ r.2.mem ((c.tc : Thread Cert.RefQkvIdeal.nD Cert.RefQkvIdeal.τ).loc Cert.RefQkvIdeal.main_arg2) = m' ((c.tc : Thread Cert.RefQkvIdeal.nD Cert.RefQkvIdeal.τ).loc Cert.RefQkvIdeal.main_arg2)
          ∧ r.2.mem ((c.tc : Thread Cert.RefQkvIdeal.nD Cert.RefQkvIdeal.τ).loc Cert.RefQkvIdeal.main_arg3) = m' ((c.tc : Thread Cert.RefQkvIdeal.nD Cert.RefQkvIdeal.τ).loc Cert.RefQkvIdeal.main_arg3)
          ∧ r.2.mem ((c.tc : Thread Cert.RefQkvIdeal.nD Cert.RefQkvIdeal.τ).loc Cert.RefQkvIdeal.main_arg4) = m' ((c.tc : Thread Cert.RefQkvIdeal.nD Cert.RefQkvIdeal.τ).loc Cert.RefQkvIdeal.main_arg4)
          ∧ r.2.mem ((c.tc : Thread Cert.RefQkvIdeal.nD Cert.RefQkvIdeal.τ).loc Cert.RefQkvIdeal.main_arg5) = m' ((c.tc : Thread Cert.RefQkvIdeal.nD Cert.RefQkvIdeal.τ).loc Cert.RefQkvIdeal.main_arg5)
          ∧ r.2.mem ((c.tc : Thread Cert.RefQkvIdeal.nD Cert.RefQkvIdeal.τ).loc Cert.RefQkvIdeal.main_arg6) = m' ((c.tc : Thread Cert.RefQkvIdeal.nD Cert.RefQkvIdeal.τ).loc Cert.RefQkvIdeal.main_arg6))

def Claim : Prop :=
  ∃ (hAttn1 : Cert.Attn1.Facts) (hAttn1Ideal : Cert.Attn1Ideal.Facts) (hRefAttn1Ideal : Cert.RefAttn1Ideal.Facts) (hFfn : Cert.Ffn.Facts) (hFfnIdeal : Cert.FfnIdeal.Facts) (hRefFfnIdeal : Cert.RefFfnIdeal.Facts) (hProj : Cert.Proj.Facts) (hProjIdeal : Cert.ProjIdeal.Facts) (hRefProjIdeal : Cert.RefProjIdeal.Facts) (hQkv : Cert.Qkv.Facts) (hQkvIdeal : Cert.QkvIdeal.Facts) (hRefQkvIdeal : Cert.RefQkvIdeal.Facts),
    quiescent_Attn1 (hAttn1 := hAttn1)
    ∧ quiescent_Attn1Ideal (hAttn1Ideal := hAttn1Ideal)
    ∧ quiescent_RefAttn1Ideal (hRefAttn1Ideal := hRefAttn1Ideal)
    ∧ quiescent_Ffn (hFfn := hFfn)
    ∧ quiescent_FfnIdeal (hFfnIdeal := hFfnIdeal)
    ∧ quiescent_RefFfnIdeal (hRefFfnIdeal := hRefFfnIdeal)
    ∧ quiescent_Proj (hProj := hProj)
    ∧ quiescent_ProjIdeal (hProjIdeal := hProjIdeal)
    ∧ quiescent_RefProjIdeal (hRefProjIdeal := hRefProjIdeal)
    ∧ quiescent_Qkv (hQkv := hQkv)
    ∧ quiescent_QkvIdeal (hQkvIdeal := hQkvIdeal)
    ∧ quiescent_RefQkvIdeal (hRefQkvIdeal := hRefQkvIdeal)
    ∧ preserves_Attn1_Attn1Ideal
    ∧ algebraic_Attn1Ideal_RefAttn1Ideal (hAttn1Ideal := hAttn1Ideal) (hRefAttn1Ideal := hRefAttn1Ideal)
    ∧ preserves_Ffn_FfnIdeal
    ∧ algebraic_FfnIdeal_RefFfnIdeal (hFfnIdeal := hFfnIdeal) (hRefFfnIdeal := hRefFfnIdeal)
    ∧ preserves_Proj_ProjIdeal
    ∧ algebraic_ProjIdeal_RefProjIdeal (hProjIdeal := hProjIdeal) (hRefProjIdeal := hRefProjIdeal)
    ∧ preserves_Qkv_QkvIdeal
    ∧ algebraic_QkvIdeal_RefQkvIdeal (hQkvIdeal := hQkvIdeal) (hRefQkvIdeal := hRefQkvIdeal)
-- ==== Attn1.lean ====
abbrev S8x8192x4x128 : Shape := ⟨4, ![8, 8192, 4, 128]⟩
abbrev S8x1x8192x512 : Shape := ⟨4, ![8, 1, 8192, 512]⟩
abbrev S8x1x8192x1536 : Shape := ⟨4, ![8, 1, 8192, 1536]⟩
abbrev S8x1x8192x128 : Shape := ⟨4, ![8, 1, 8192, 128]⟩
abbrev S1x1x2048x512 : Shape := ⟨4, ![1, 1, 2048, 512]⟩
abbrev S1x1x64x512 : Shape := ⟨4, ![1, 1, 64, 512]⟩
abbrev S1x1x2048x128 : Shape := ⟨4, ![1, 1, 2048, 128]⟩
abbrev S1x2176x512 : Shape := ⟨3, ![1, 2176, 512]⟩
abbrev S1x2176x1024 : Shape := ⟨3, ![1, 2176, 1024]⟩
abbrev S128x256 : Shape := ⟨2, ![128, 256]⟩
abbrev S1x256 : Shape := ⟨2, ![1, 256]⟩
abbrev S128x128 : Shape := ⟨2, ![128, 128]⟩
abbrev S64x512 : Shape := ⟨2, ![64, 512]⟩
abbrev S2176x512 : Shape := ⟨2, ![2176, 512]⟩
abbrev S1x64x512 : Shape := ⟨3, ![1, 64, 512]⟩
abbrev S2048x512 : Shape := ⟨2, ![2048, 512]⟩
abbrev S1x2048x512 : Shape := ⟨3, ![1, 2048, 512]⟩
abbrev S1x1x64x128 : Shape := ⟨4, ![1, 1, 64, 128]⟩
abbrev S64x128 : Shape := ⟨2, ![64, 128]⟩
abbrev S2176x1024 : Shape := ⟨2, ![2176, 1024]⟩
abbrev S1x64x128 : Shape := ⟨3, ![1, 64, 128]⟩
abbrev S2048x128 : Shape := ⟨2, ![2048, 128]⟩
abbrev S1x2048x128 : Shape := ⟨3, ![1, 2048, 128]⟩
abbrev S2176x128 : Shape := ⟨2, ![2176, 128]⟩
abbrev S1x2176x128 : Shape := ⟨3, ![1, 2176, 128]⟩
abbrev S1x1x128x128 : Shape := ⟨4, ![1, 1, 128, 128]⟩
abbrev S256x128 : Shape := ⟨2, ![256, 128]⟩
abbrev S256x256 : Shape := ⟨2, ![256, 256]⟩
abbrev S128 : Shape := ⟨1, ![128]⟩
abbrev S128x1 : Shape := ⟨2, ![128, 1]⟩

abbrev nBuf : Space → Nat
  | .hbm => 10
  | .vmem => 20
  | .smem => 0
  | _ => 0

abbrev bufTy : (tb : Table) → Fin (tcTables nBuf tb) → BufTy
  | .hbm, ⟨0, _⟩ => ⟨S8x8192x4x128, .f32⟩
  | .hbm, ⟨1, _⟩ => ⟨S8x8192x4x128, .f32⟩
  | .hbm, ⟨2, _⟩ => ⟨S8x8192x4x128, .f32⟩
  | .hbm, ⟨3, _⟩ => ⟨S8x1x8192x512, .f32⟩
  | .hbm, ⟨4, _⟩ => ⟨S8x1x8192x512, .f32⟩
  | .hbm, ⟨5, _⟩ => ⟨S8x1x8192x512, .f32⟩
  | .hbm, ⟨6, _⟩ => ⟨S8x1x8192x1536, .f32⟩
  | .hbm, ⟨7, _⟩ => ⟨S8x1x8192x1536, .bf16⟩
  | .hbm, ⟨8, _⟩ => ⟨S8x1x8192x512, .f32⟩
  | .hbm, ⟨9, _⟩ => ⟨S8x1x8192x128, .f32⟩
  | .local _ .vmem, ⟨0, _⟩ => ⟨S1x1x2048x512, .bf16⟩
  | .local _ .vmem, ⟨1, _⟩ => ⟨S1x1x2048x512, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x64x512, .bf16⟩
  | .local _ .vmem, ⟨5, _⟩ => ⟨S1x1x64x512, .bf16⟩
  | .local _ .vmem, ⟨6, _⟩ => ⟨S1x1x64x512, .bf16⟩
  | .local _ .vmem, ⟨7, _⟩ => ⟨S1x1x64x512, .bf16⟩
  | .local _ .vmem, ⟨8, _⟩ => ⟨S1x1x2048x512, .bf16⟩
  | .local _ .vmem, ⟨9, _⟩ => ⟨S1x1x2048x512, .bf16⟩
  | .local _ .vmem, ⟨10, _⟩ => ⟨S1x1x64x512, .bf16⟩
  | .local _ .vmem, ⟨11, _⟩ => ⟨S1x1x64x512, .bf16⟩
  | .local _ .vmem, ⟨12, _⟩ => ⟨S1x1x64x512, .bf16⟩
  | .local _ .vmem, ⟨13, _⟩ => ⟨S1x1x64x512, .bf16⟩
  | .local _ .vmem, ⟨14, _⟩ => ⟨S1x1x2048x512, .f32⟩
  | .local _ .vmem, ⟨15, _⟩ => ⟨S1x1x2048x512, .f32⟩
  | .local _ .vmem, ⟨16, _⟩ => ⟨S1x1x2048x128, .f32⟩
  | .local _ .vmem, ⟨17, _⟩ => ⟨S1x1x2048x128, .f32⟩
  | .local _ .vmem, ⟨18, _⟩ => ⟨S1x2176x512, .bf16⟩
  | .local _ .vmem, ⟨19, _⟩ => ⟨S1x2176x1024, .bf16⟩
  | _, _ => ⟨S8x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 1, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg2 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.muli v0 c32_i32
  let c127_i32 : BitVec 32 := 127#32
  let v2 : BitVec 32 := Scalar.minsi v1 c127_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg2 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.muli v0 c32_i32
  let c127_i32 : BitVec 32 := 127#32
  let v2 : BitVec 32 := Scalar.minsi v1 c127_i32
  let c2_i32 : BitVec 32 := 2#32
  let c0_i32 : BitVec 32 := 0#32
  ![arg0.toNat, arg1.toNat, v2.toNat, c2_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Attn1Ideal.lean ====
variable {F : FTy → Type} [FloatOps F] [Named F]
def κ : String → Option EReal := fun
  | "ln2" => some ((Real.log 2 : ℝ) : EReal)
  | "mask" => some ⊥
  | "scale2" => some (((Real.log 2)⁻¹ * (Real.sqrt 128)⁻¹ : ℝ) : EReal)
  | _ => none
-- ==== RefAttn1Ideal.lean ====
abbrev S8x8192x4x128 : Shape := ⟨4, ![8, 8192, 4, 128]⟩
abbrev S8x8192x1x4x128 : Shape := ⟨5, ![8, 8192, 1, 4, 128]⟩
abbrev S8x1x4x8192x128 : Shape := ⟨5, ![8, 1, 4, 8192, 128]⟩
abbrev S_ : Shape := ⟨0, ![]⟩
abbrev S8x1x4x128x64x128 : Shape := ⟨6, ![8, 1, 4, 128, 64, 128]⟩
abbrev S8x1x4x8320x128 : Shape := ⟨5, ![8, 1, 4, 8320, 128]⟩
abbrev S8x1x4x130x64x128 : Shape := ⟨6, ![8, 1, 4, 130, 64, 128]⟩
abbrev S8x1x4x128x192x128 : Shape := ⟨6, ![8, 1, 4, 128, 192, 128]⟩
abbrev S8x1x4x128x64x192 : Shape := ⟨6, ![8, 1, 4, 128, 64, 192]⟩
abbrev S128 : Shape := ⟨1, ![128]⟩
abbrev S128x1 : Shape := ⟨2, ![128, 1]⟩
abbrev S64 : Shape := ⟨1, ![64]⟩
abbrev S1x64 : Shape := ⟨2, ![1, 64]⟩
abbrev S128x64 : Shape := ⟨2, ![128, 64]⟩
abbrev S192 : Shape := ⟨1, ![192]⟩
abbrev S1x192 : Shape := ⟨2, ![1, 192]⟩
abbrev S128x192 : Shape := ⟨2, ![128, 192]⟩
abbrev S128x1x192 : Shape := ⟨3, ![128, 1, 192]⟩
abbrev S128x64x1 : Shape := ⟨3, ![128, 64, 1]⟩
abbrev S128x64x192 : Shape := ⟨3, ![128, 64, 192]⟩
abbrev S8x1x4x128x64 : Shape := ⟨5, ![8, 1, 4, 128, 64]⟩
abbrev S8x1x4x128x64x1 : Shape := ⟨6, ![8, 1, 4, 128, 64, 1]⟩
abbrev S8x1x8192x4x128 : Shape := ⟨5, ![8, 1, 8192, 4, 128]⟩
abbrev S8x1x8192x512 : Shape := ⟨4, ![8, 1, 8192, 512]⟩
abbrev S8x1x4x8192 : Shape := ⟨4, ![8, 1, 4, 8192]⟩
abbrev S8x1x8192x4 : Shape := ⟨4, ![8, 1, 8192, 4]⟩
abbrev S8x1x8192x120 : Shape := ⟨4, ![8, 1, 8192, 120]⟩
abbrev S8x1x8192x128 : Shape := ⟨4, ![8, 1, 8192, 128]⟩

abbrev nBuf : Space → Nat
  | .hbm => 103
  | .vmem => 0
  | .smem => 0
  | _ => 0

abbrev bufTy : (tb : Table) → Fin (tcTables nBuf tb) → BufTy
  | .hbm, ⟨0, _⟩ => ⟨S8x8192x4x128, .f32⟩
  | .hbm, ⟨1, _⟩ => ⟨S8x8192x4x128, .f32⟩
  | .hbm, ⟨2, _⟩ => ⟨S8x8192x4x128, .f32⟩
  | .hbm, ⟨3, _⟩ => ⟨S8x8192x1x4x128, .f32⟩
  | .hbm, ⟨4, _⟩ => ⟨S8x1x4x8192x128, .f32⟩
  | .hbm, ⟨5, _⟩ => ⟨S_, .i32⟩
  | .hbm, ⟨6, _⟩ => ⟨S_, .f32⟩
  | .hbm, ⟨7, _⟩ => ⟨S8x1x4x8192x128, .f32⟩
  | .hbm, ⟨8, _⟩ => ⟨S8x1x4x128x64x128, .f32⟩
  | .hbm, ⟨9, _⟩ => ⟨S8x8192x1x4x128, .f32⟩
  | .hbm, ⟨10, _⟩ => ⟨S8x1x4x8192x128, .f32⟩
  | .hbm, ⟨11, _⟩ => ⟨S_, .i32⟩
  | .hbm, ⟨12, _⟩ => ⟨S_, .f32⟩
  | .hbm, ⟨13, _⟩ => ⟨S8x1x4x8320x128, .f32⟩
  | .hbm, ⟨14, _⟩ => ⟨S8x1x4x130x64x128, .f32⟩
  | .hbm, ⟨15, _⟩ => ⟨S8x1x4x128x64x128, .f32⟩
  | .hbm, ⟨16, _⟩ => ⟨S8x1x4x128x64x128, .f32⟩
  | .hbm, ⟨17, _⟩ => ⟨S8x1x4x128x64x128, .f32⟩
  | .hbm, ⟨18, _⟩ => ⟨S8x1x4x128x192x128, .f32⟩
  | .hbm, ⟨19, _⟩ => ⟨S8x8192x1x4x128, .f32⟩
  | .hbm, ⟨20, _⟩ => ⟨S8x1x4x8192x128, .f32⟩
  | .hbm, ⟨21, _⟩ => ⟨S_, .i32⟩
  | .hbm, ⟨22, _⟩ => ⟨S_, .f32⟩
  | .hbm, ⟨23, _⟩ => ⟨S8x1x4x8320x128, .f32⟩
  | .hbm, ⟨24, _⟩ => ⟨S8x1x4x130x64x128, .f32⟩
  | .hbm, ⟨25, _⟩ => ⟨S8x1x4x128x64x128, .f32⟩
  | .hbm, ⟨26, _⟩ => ⟨S8x1x4x128x64x128, .f32⟩
  | .hbm, ⟨27, _⟩ => ⟨S8x1x4x128x64x128, .f32⟩
  | .hbm, ⟨28, _⟩ => ⟨S8x1x4x128x192x128, .f32⟩
  | .hbm, ⟨29, _⟩ => ⟨S8x1x4x128x64x192, .f32⟩
  | .hbm, ⟨30, _⟩ => ⟨S_, .f32⟩
  | .hbm, ⟨31, _⟩ => ⟨S_, .f32⟩
  | .hbm, ⟨32, _⟩ => ⟨S8x1x4x128x64x192, .f32⟩
  | .hbm, ⟨33, _⟩ => ⟨S8x1x4x128x64x192, .f32⟩
  | .hbm, ⟨34, _⟩ => ⟨S128, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S64, .i32⟩
  | .hbm, ⟨40, _⟩ => ⟨S1x64, .i32⟩
  | .hbm, ⟨41, _⟩ => ⟨S128x64, .i32⟩
  | .hbm, ⟨42, _⟩ => ⟨S128x64, .i32⟩
  | .hbm, ⟨43, _⟩ => ⟨S128x64, .i32⟩
  | .hbm, ⟨44, _⟩ => ⟨S128, .i32⟩
  | .hbm, ⟨45, _⟩ => ⟨S128x1, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S192, .i32⟩
  | .hbm, ⟨53, _⟩ => ⟨S1x192, .i32⟩
  | .hbm, ⟨54, _⟩ => ⟨S128x192, .i32⟩
  | .hbm, ⟨55, _⟩ => ⟨S128x192, .i32⟩
  | .hbm, ⟨56, _⟩ => ⟨S128x192, .i32⟩
  | .hbm, ⟨57, _⟩ => ⟨S128x1x192, .i32⟩
  | .hbm, ⟨58, _⟩ => ⟨S128x64x1, .i32⟩
  | .hbm, ⟨59, _⟩ => ⟨S128x64x192, .i32⟩
  | .hbm, ⟨60, _⟩ => ⟨S128x64x192, .i32⟩
  | .hbm, ⟨61, _⟩ => ⟨S128x64x192, .i32⟩
  | .hbm, ⟨62, _⟩ => ⟨S128x64x192, .i32⟩
  | .hbm, ⟨63, _⟩ => ⟨S_, .i32⟩
  | .hbm, ⟨64, _⟩ => ⟨S128x64x192, .i32⟩
  | .hbm, ⟨65, _⟩ => ⟨S128x64x192, .i1⟩
  | .hbm, ⟨66, _⟩ => ⟨S128x1x192, .i32⟩
  | .hbm, ⟨67, _⟩ => ⟨S_, .i32⟩
  | .hbm, ⟨68, _⟩ => ⟨S128x1x192, .i32⟩
  | .hbm, ⟨69, _⟩ => ⟨S128x1x192, .i1⟩
  | .hbm, ⟨70, _⟩ => ⟨S128x64x192, .i1⟩
  | .hbm, ⟨71, _⟩ => ⟨S128x64x192, .i1⟩
  | .hbm, ⟨72, _⟩ => ⟨S128x1x192, .i32⟩
  | .hbm, ⟨73, _⟩ => ⟨S_, .i32⟩
  | .hbm, ⟨74, _⟩ => ⟨S128x1x192, .i32⟩
  | .hbm, ⟨75, _⟩ => ⟨S128x1x192, .i1⟩
  | .hbm, ⟨76, _⟩ => ⟨S128x64x192, .i1⟩
  | .hbm, ⟨77, _⟩ => ⟨S128x64x192, .i1⟩
  | .hbm, ⟨78, _⟩ => ⟨S_, .f32⟩
  | .hbm, ⟨79, _⟩ => ⟨S_, .f32⟩
  | .hbm, ⟨80, _⟩ => ⟨S8x1x4x128x64x192, .i1⟩
  | .hbm, ⟨81, _⟩ => ⟨S8x1x4x128x64x192, .f32⟩
  | .hbm, ⟨82, _⟩ => ⟨S8x1x4x128x64x192, .f32⟩
  | .hbm, ⟨83, _⟩ => ⟨S_, .f32⟩
  | .hbm, ⟨84, _⟩ => ⟨S8x1x4x128x64, .f32⟩
  | .hbm, ⟨85, _⟩ => ⟨S8x1x4x128x64x1, .f32⟩
  | .hbm, ⟨86, _⟩ => ⟨S8x1x4x128x64x192, .f32⟩
  | .hbm, ⟨87, _⟩ => ⟨S8x1x4x128x64x192, .f32⟩
  | .hbm, ⟨88, _⟩ => ⟨S8x1x4x128x64x192, .f32⟩
  | .hbm, ⟨89, _⟩ => ⟨S_, .f32⟩
  | .hbm, ⟨90, _⟩ => ⟨S8x1x4x128x64, .f32⟩
  | .hbm, ⟨91, _⟩ => ⟨S8x1x4x128x64x1, .f32⟩
  | .hbm, ⟨92, _⟩ => ⟨S8x1x4x128x64x128, .f32⟩
  | .hbm, ⟨93, _⟩ => ⟨S8x1x4x8192x128, .f32⟩
  | .hbm, ⟨94, _⟩ => ⟨S8x1x8192x4x128, .f32⟩
  | .hbm, ⟨95, _⟩ => ⟨S8x1x8192x512, .f32⟩
  | .hbm, ⟨96, _⟩ => ⟨S8x1x4x8192, .f32⟩
  | .hbm, ⟨97, _⟩ => ⟨S8x1x8192x4, .f32⟩
  | .hbm, ⟨98, _⟩ => ⟨S8x1x4x8192, .f32⟩
  | .hbm, ⟨99, _⟩ => ⟨S8x1x8192x4, .f32⟩
  | .hbm, ⟨100, _⟩ => ⟨S_, .f32⟩
  | .hbm, ⟨101, _⟩ => ⟨S8x1x8192x120, .f32⟩
  | .hbm, ⟨102, _⟩ => ⟨S8x1x8192x128, .f32⟩
  | _, _ => ⟨S8x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_3 : Ref sig .tc := ⟨.hbm, 46, rfl⟩
abbrev main_v35 : Ref sig .tc := ⟨.hbm, 47, rfl⟩
abbrev main_v36 : Ref sig .tc := ⟨.hbm, 48, rfl⟩
abbrev main_c_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== Ffn.lean ====
abbrev S8x16x1024x1024 : Shape := ⟨4, ![8, 16, 1024, 1024]⟩
abbrev S8x16x1024 : Shape := ⟨3, ![8, 16, 1024]⟩
abbrev S16x1024x2048 : Shape := ⟨3, ![16, 1024, 2048]⟩
abbrev S16x2048x1024 : Shape := ⟨3, ![16, 2048, 1024]⟩
abbrev S8x16x1024x1 : Shape := ⟨4, ![8, 16, 1024, 1]⟩
abbrev S8x16x1024x128 : Shape := ⟨4, ![8, 16, 1024, 128]⟩
abbrev S1x1x1024x1024 : Shape := ⟨4, ![1, 1, 1024, 1024]⟩
abbrev S1x1x1024x128 : Shape := ⟨4, ![1, 1, 1024, 128]⟩
abbrev S1x1024x2048 : Shape := ⟨3, ![1, 1024, 2048]⟩
abbrev S1x2048x1024 : Shape := ⟨3, ![1, 2048, 1024]⟩
abbrev S1024x1024 : Shape := ⟨2, ![1024, 1024]⟩
abbrev S1x1x1024x1 : Shape := ⟨4, ![1, 1, 1024, 1]⟩
abbrev S1024x1 : Shape := ⟨2, ![1024, 1]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 12
  | .vmem => 13
  | .smem => 0
  | _ => 0

abbrev bufTy : (tb : Table) → Fin (tcTables nBuf tb) → BufTy
  | .hbm, ⟨0, _⟩ => ⟨S8x16x1024x1024, .f32⟩
  | .hbm, ⟨1, _⟩ => ⟨S8x16x1024, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S8x16x1024x1, .f32⟩
  | .hbm, ⟨6, _⟩ => ⟨S8x16x1024x128, .f32⟩
  | .hbm, ⟨7, _⟩ => ⟨S8x16x1024x1024, .bf16⟩
  | .hbm, ⟨8, _⟩ => ⟨S16x1024x2048, .bf16⟩
  | .hbm, ⟨9, _⟩ => ⟨S16x1024x2048, .bf16⟩
  | .hbm, ⟨10, _⟩ => ⟨S16x2048x1024, .bf16⟩
  | .hbm, ⟨11, _⟩ => ⟨S8x16x1024x1024, .bf16⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1x1024x128, .f32⟩
  | .local _ .vmem, ⟨3, _⟩ => ⟨S1x1x1024x128, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x1x1024x1024, .bf16⟩
  | .local _ .vmem, ⟨11, _⟩ => ⟨S1x1x1024x1024, .bf16⟩
  | .local _ .vmem, ⟨12, _⟩ => ⟨S1024x1024, .f32⟩
  | _, _ => ⟨S8x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefFfnIdeal.lean ====
abbrev S8x16x1024x1024 : Shape := ⟨4, ![8, 16, 1024, 1024]⟩
abbrev S8x16x1024 : Shape := ⟨3, ![8, 16, 1024]⟩
abbrev S16x1024x2048 : Shape := ⟨3, ![16, 1024, 2048]⟩
abbrev S16x2048x1024 : Shape := ⟨3, ![16, 2048, 1024]⟩
abbrev S16x2048x8x1024 : Shape := ⟨4, ![16, 2048, 8, 1024]⟩
abbrev S8x16x1024x2048 : Shape := ⟨4, ![8, 16, 1024, 2048]⟩
abbrev S_ : Shape := ⟨0, ![]⟩
abbrev S16x1024x8x1024 : Shape := ⟨4, ![16, 1024, 8, 1024]⟩
abbrev S8x16x1024x1 : Shape := ⟨4, ![8, 16, 1024, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x16x1024x1024, .f32⟩
  | .hbm, ⟨1, _⟩ => ⟨S8x16x1024, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S16x2048x8x1024, .f32⟩
  | .hbm, ⟨6, _⟩ => ⟨S8x16x1024x2048, .f32⟩
  | .hbm, ⟨7, _⟩ => ⟨S8x16x1024x2048, .f32⟩
  | .hbm, ⟨8, _⟩ => ⟨S8x16x1024x2048, .f32⟩
  | .hbm, ⟨9, _⟩ => ⟨S_, .f32⟩
  | .hbm, ⟨10, _⟩ => ⟨S8x16x1024x2048, .f32⟩
  | .hbm, ⟨11, _⟩ => ⟨S8x16x1024x2048, .f32⟩
  | .hbm, ⟨12, _⟩ => ⟨S_, .f32⟩
  | .hbm, ⟨13, _⟩ => ⟨S8x16x1024x2048, .f32⟩
  | .hbm, ⟨14, _⟩ => ⟨S8x16x1024x2048, .f32⟩
  | .hbm, ⟨15, _⟩ => ⟨S8x16x1024x2048, .f32⟩
  | .hbm, ⟨16, _⟩ => ⟨S16x2048x8x1024, .f32⟩
  | .hbm, ⟨17, _⟩ => ⟨S8x16x1024x2048, .f32⟩
  | .hbm, ⟨18, _⟩ => ⟨S8x16x1024x2048, .f32⟩
  | .hbm, ⟨19, _⟩ => ⟨S16x1024x8x1024, .f32⟩
  | .hbm, ⟨20, _⟩ => ⟨S8x16x1024x1024, .f32⟩
  | .hbm, ⟨21, _⟩ => ⟨S8x16x1024x1, .f32⟩
  | .hbm, ⟨22, _⟩ => ⟨S8x16x1024x1024, .f32⟩
  | .hbm, ⟨23, _⟩ => ⟨S8x16x1024x1024, .f32⟩
  | .hbm, ⟨24, _⟩ => ⟨S8x16x1024x1024, .bf16⟩
  | _, _ => ⟨S8x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Proj.lean ====
abbrev S8x8192x1024 : Shape := ⟨3, ![8, 8192, 1024]⟩
abbrev S1024x8704 : Shape := ⟨2, ![1024, 8704]⟩
abbrev S8704 : Shape := ⟨1, ![8704]⟩
abbrev S65536x1024 : Shape := ⟨2, ![65536, 1024]⟩
abbrev S1024x2048 : Shape := ⟨2, ![1024, 2048]⟩
abbrev S1x8704 : Shape := ⟨2, ![1, 8704]⟩
abbrev S1x2048 : Shape := ⟨2, ![1, 2048]⟩
abbrev S65536x2048 : Shape := ⟨2, ![65536, 2048]⟩
abbrev S2048x1024 : Shape := ⟨2, ![2048, 1024]⟩
abbrev S2048x2048 : Shape := ⟨2, ![2048, 2048]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 10
  | .vmem => 6
  | .smem => 0
  | _ => 0

abbrev bufTy : (tb : Table) → Fin (tcTables nBuf tb) → BufTy
  | .hbm, ⟨0, _⟩ => ⟨S8x8192x1024, .f32⟩
  | .hbm, ⟨1, _⟩ => ⟨S1024x8704, .f32⟩
  | .hbm, ⟨2, _⟩ => ⟨S8704, .f32⟩
  | .hbm, ⟨3, _⟩ => ⟨S65536x1024, .f32⟩
  | .hbm, ⟨4, _⟩ => ⟨S65536x1024, .bf16⟩
  | .hbm, ⟨5, _⟩ => ⟨S1024x8704, .bf16⟩
  | .hbm, ⟨6, _⟩ => ⟨S1024x2048, .bf16⟩
  | .hbm, ⟨7, _⟩ => ⟨S1x8704, .f32⟩
  | .hbm, ⟨8, _⟩ => ⟨S1x2048, .f32⟩
  | .hbm, ⟨9, _⟩ => ⟨S65536x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x2048, .bf16⟩
  | .local _ .vmem, ⟨3, _⟩ => ⟨S1x2048, .f32⟩
  | .local _ .vmem, ⟨4, _⟩ => ⟨S2048x2048, .f32⟩
  | .local _ .vmem, ⟨5, _⟩ => ⟨S2048x2048, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefProjIdeal.lean ====
abbrev S8x8192x1024 : Shape := ⟨3, ![8, 8192, 1024]⟩
abbrev S1024x8704 : Shape := ⟨2, ![1024, 8704]⟩
abbrev S8704 : Shape := ⟨1, ![8704]⟩
abbrev S8x8192x8704 : Shape := ⟨3, ![8, 8192, 8704]⟩
abbrev S1x1x8704 : Shape := ⟨3, ![1, 1, 8704]⟩
abbrev S8x8192x2048 : Shape := ⟨3, ![8, 8192, 2048]⟩
abbrev S65536x2048 : Shape := ⟨2, ![65536, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x8704, .f32⟩
  | .hbm, ⟨2, _⟩ => ⟨S8704, .f32⟩
  | .hbm, ⟨3, _⟩ => ⟨S8x8192x8704, .f32⟩
  | .hbm, ⟨4, _⟩ => ⟨S1x1x8704, .f32⟩
  | .hbm, ⟨5, _⟩ => ⟨S8x8192x8704, .f32⟩
  | .hbm, ⟨6, _⟩ => ⟨S8x8192x8704, .f32⟩
  | .hbm, ⟨7, _⟩ => ⟨S8x8192x2048, .f32⟩
  | .hbm, ⟨8, _⟩ => ⟨S65536x2048, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Qkv.lean ====
abbrev S8x8192x1024 : Shape := ⟨3, ![8, 8192, 1024]⟩
abbrev S8192x16 : Shape := ⟨2, ![8192, 16]⟩
abbrev S1024 : Shape := ⟨1, ![1024]⟩
abbrev S1024x8704 : Shape := ⟨2, ![1024, 8704]⟩
abbrev S8704 : Shape := ⟨1, ![8704]⟩
abbrev S16x1024x2048 : Shape := ⟨3, ![16, 1024, 2048]⟩
abbrev S_ : Shape := ⟨0, ![]⟩
abbrev S8192x96 : Shape := ⟨2, ![8192, 96]⟩
abbrev S8192x128 : Shape := ⟨2, ![8192, 128]⟩
abbrev S1x8704 : Shape := ⟨2, ![1, 8704]⟩
abbrev S1024x512 : Shape := ⟨2, ![1024, 512]⟩
abbrev S1024x1536 : Shape := ⟨2, ![1024, 1536]⟩
abbrev S1x512 : Shape := ⟨2, ![1, 512]⟩
abbrev S1x1536 : Shape := ⟨2, ![1, 1536]⟩
abbrev S1x4608 : Shape := ⟨2, ![1, 4608]⟩
abbrev S65536x1024 : Shape := ⟨2, ![65536, 1024]⟩
abbrev S1x1024 : Shape := ⟨2, ![1, 1024]⟩
abbrev S16384x2048 : Shape := ⟨2, ![16384, 2048]⟩
abbrev S65536x1536 : Shape := ⟨2, ![65536, 1536]⟩
abbrev S8x4x2048x1536 : Shape := ⟨4, ![8, 4, 2048, 1536]⟩
abbrev S8x16x512x1536 : Shape := ⟨4, ![8, 16, 512, 1536]⟩
abbrev S1024x1024 : Shape := ⟨2, ![1024, 1024]⟩
abbrev S1024x128 : Shape := ⟨2, ![1024, 128]⟩
abbrev S256x2048 : Shape := ⟨2, ![256, 2048]⟩
abbrev S1x4x256x1536 : Shape := ⟨4, ![1, 4, 256, 1536]⟩
abbrev S1x16x64x1536 : Shape := ⟨4, ![1, 16, 64, 1536]⟩
abbrev S1280x128 : Shape := ⟨2, ![1280, 128]⟩
abbrev S1024x1 : Shape := ⟨2, ![1024, 1]⟩
abbrev S1x128 : Shape := ⟨2, ![1, 128]⟩
abbrev S256x128 : Shape := ⟨2, ![256, 128]⟩
abbrev S1x1x256x128 : Shape := ⟨4, ![1, 1, 256, 128]⟩
abbrev S16x128 : Shape := ⟨2, ![16, 128]⟩
abbrev S64x128 : Shape := ⟨2, ![64, 128]⟩
abbrev S1x1x64x128 : Shape := ⟨4, ![1, 1, 64, 128]⟩

abbrev nBuf : Space → Nat
  | .hbm => 49
  | .vmem => 24
  | .smem => 0
  | _ => 0

abbrev bufTy : (tb : Table) → Fin (tcTables nBuf tb) → BufTy
  | .hbm, ⟨0, _⟩ => ⟨S8x8192x1024, .f32⟩
  | .hbm, ⟨1, _⟩ => ⟨S8192x16, .f32⟩
  | .hbm, ⟨2, _⟩ => ⟨S8192x16, .f32⟩
  | .hbm, ⟨3, _⟩ => ⟨S1024, .f32⟩
  | .hbm, ⟨4, _⟩ => ⟨S1024x8704, .f32⟩
  | .hbm, ⟨5, _⟩ => ⟨S8704, .f32⟩
  | .hbm, ⟨6, _⟩ => ⟨S16x1024x2048, .f32⟩
  | .hbm, ⟨7, _⟩ => ⟨S_, .f32⟩
  | .hbm, ⟨8, _⟩ => ⟨S8192x96, .f32⟩
  | .hbm, ⟨9, _⟩ => ⟨S8192x128, .f32⟩
  | .hbm, ⟨10, _⟩ => ⟨S8192x16, .f32⟩
  | .hbm, ⟨11, _⟩ => ⟨S_, .f32⟩
  | .hbm, ⟨12, _⟩ => ⟨S8192x96, .f32⟩
  | .hbm, ⟨13, _⟩ => ⟨S8192x128, .f32⟩
  | .hbm, ⟨14, _⟩ => ⟨S1024x8704, .bf16⟩
  | .hbm, ⟨15, _⟩ => ⟨S1x8704, .f32⟩
  | .hbm, ⟨16, _⟩ => ⟨S1024x512, .bf16⟩
  | .hbm, ⟨17, _⟩ => ⟨S1024x512, .bf16⟩
  | .hbm, ⟨18, _⟩ => ⟨S1024x512, .bf16⟩
  | .hbm, ⟨19, _⟩ => ⟨S1024x1536, .bf16⟩
  | .hbm, ⟨20, _⟩ => ⟨S1024x512, .bf16⟩
  | .hbm, ⟨21, _⟩ => ⟨S1024x512, .bf16⟩
  | .hbm, ⟨22, _⟩ => ⟨S1024x512, .bf16⟩
  | .hbm, ⟨23, _⟩ => ⟨S1024x1536, .bf16⟩
  | .hbm, ⟨24, _⟩ => ⟨S1024x512, .bf16⟩
  | .hbm, ⟨25, _⟩ => ⟨S1024x512, .bf16⟩
  | .hbm, ⟨26, _⟩ => ⟨S1024x512, .bf16⟩
  | .hbm, ⟨27, _⟩ => ⟨S1024x1536, .bf16⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x1536, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x1536, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x1536, .f32⟩
  | .hbm, ⟨40, _⟩ => ⟨S1x4608, .f32⟩
  | .hbm, ⟨41, _⟩ => ⟨S65536x1024, .f32⟩
  | .hbm, ⟨42, _⟩ => ⟨S1x1024, .f32⟩
  | .hbm, ⟨43, _⟩ => ⟨S16384x2048, .f32⟩
  | .hbm, ⟨44, _⟩ => ⟨S65536x1024, .bf16⟩
  | .hbm, ⟨45, _⟩ => ⟨S65536x1536, .bf16⟩
  | .hbm, ⟨46, _⟩ => ⟨S8x4x2048x1536, .bf16⟩
  | .hbm, ⟨47, _⟩ => ⟨S8x16x512x1536, .bf16⟩
  | .hbm, ⟨48, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1x4608, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S256x2048, .f32⟩
  | .local _ .vmem, ⟨12, _⟩ => ⟨S256x2048, .f32⟩
  | .local _ .vmem, ⟨13, _⟩ => ⟨S1024x1024, .bf16⟩
  | .local _ .vmem, ⟨14, _⟩ => ⟨S1024x1024, .bf16⟩
  | .local _ .vmem, ⟨15, _⟩ => ⟨S1024x1536, .bf16⟩
  | .local _ .vmem, ⟨16, _⟩ => ⟨S1024x1536, .bf16⟩
  | .local _ .vmem, ⟨17, _⟩ => ⟨S1x4x256x1536, .bf16⟩
  | .local _ .vmem, ⟨18, _⟩ => ⟨S1x4x256x1536, .bf16⟩
  | .local _ .vmem, ⟨19, _⟩ => ⟨S1x16x64x1536, .bf16⟩
  | .local _ .vmem, ⟨20, _⟩ => ⟨S1x16x64x1536, .bf16⟩
  | .local _ .vmem, ⟨21, _⟩ => ⟨S256x2048, .bf16⟩
  | .local _ .vmem, ⟨22, _⟩ => ⟨S256x2048, .bf16⟩
  | .local _ .vmem, ⟨23, _⟩ => ⟨S1280x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev main_v35_2 : Ref sig .tc := ⟨.hbm, 46, rfl⟩
abbrev main_v35_3 : Ref sig .tc := ⟨.hbm, 47, rfl⟩
abbrev main_v35_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x256x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x64x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefQkvIdeal.lean ====
abbrev S8x8192x1024 : Shape := ⟨3, ![8, 8192, 1024]⟩
abbrev S8192x16 : Shape := ⟨2, ![8192, 16]⟩
abbrev S1024 : Shape := ⟨1, ![1024]⟩
abbrev S1024x8704 : Shape := ⟨2, ![1024, 8704]⟩
abbrev S8704 : Shape := ⟨1, ![8704]⟩
abbrev S16x1024x2048 : Shape := ⟨3, ![16, 1024, 2048]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x8704 : Shape := ⟨3, ![8, 8192, 8704]⟩
abbrev S1x1x8704 : Shape := ⟨3, ![1, 1, 8704]⟩
abbrev S8x8192x512 : Shape := ⟨3, ![8, 8192, 512]⟩
abbrev S8x8192x4x128 : Shape := ⟨4, ![8, 8192, 4, 128]⟩
abbrev S8x8192x4x16 : Shape := ⟨4, ![8, 8192, 4, 16]⟩
abbrev S8x8192x4x96 : Shape := ⟨4, ![8, 8192, 4, 96]⟩
abbrev S1x8192x1x16 : Shape := ⟨4, ![1, 8192, 1, 16]⟩
abbrev S8x8192x1536 : Shape := ⟨3, ![8, 8192, 1536]⟩
abbrev S8x8192x1x1536 : Shape := ⟨4, ![8, 8192, 1, 1536]⟩
abbrev S8x1x8192x1536 : Shape := ⟨4, ![8, 1, 8192, 1536]⟩
abbrev S8x2048x4x1536 : Shape := ⟨4, ![8, 2048, 4, 1536]⟩
abbrev S8x4x2048x1536 : Shape := ⟨4, ![8, 4, 2048, 1536]⟩
abbrev S8x512x16x1536 : Shape := ⟨4, ![8, 512, 16, 1536]⟩
abbrev S8x16x512x1536 : Shape := ⟨4, ![8, 16, 512, 1536]⟩
abbrev S65536x1024 : Shape := ⟨2, ![65536, 1024]⟩
abbrev S65536x1536 : Shape := ⟨2, ![65536, 1536]⟩
abbrev S16384x2048 : Shape := ⟨2, ![16384, 2048]⟩

abbrev nBuf : Space → Nat
  | .hbm => 167
  | .vmem => 0
  | .smem => 0
  | _ => 0

abbrev hbmTy0_0 (i : Nat) : BufTy := match i % 128 with
  | 0 => ⟨S8x8192x1024, .f32⟩
  | 1 => ⟨S8192x16, .f32⟩
  | 2 => ⟨S8192x16, .f32⟩
  | 3 => ⟨S1024, .f32⟩
  | 4 => ⟨S1024x8704, .f32⟩
  | 5 => ⟨S8704, .f32⟩
  | 6 => ⟨S16x1024x2048, .f32⟩
  | 7 => ⟨S8x8192x1024, .f32⟩
  | 8 => ⟨S_, .f32⟩
  | 9 => ⟨S8x8192, .f32⟩
  | 10 => ⟨S8x8192x1, .f32⟩
  | 11 => ⟨S_, .f32⟩
  | 12 => ⟨S8x8192x1, .f32⟩
  | 13 => ⟨S8x8192x1, .f32⟩
  | 14 => ⟨S_, .f32⟩
  | 15 => ⟨S8x8192x1, .f32⟩
  | 16 => ⟨S8x8192x1, .f32⟩
  | 17 => ⟨S8x8192x1, .f32⟩
  | 18 => ⟨S8x8192x1024, .f32⟩
  | 19 => ⟨S8x8192x1024, .f32⟩
  | 20 => ⟨S1x1x1024, .f32⟩
  | 21 => ⟨S8x8192x1024, .f32⟩
  | 22 => ⟨S8x8192x1024, .f32⟩
  | 23 => ⟨S8x8192x8704, .f32⟩
  | 24 => ⟨S1x1x8704, .f32⟩
  | 25 => ⟨S8x8192x8704, .f32⟩
  | 26 => ⟨S8x8192x8704, .f32⟩
  | 27 => ⟨S8x8192x512, .f32⟩
  | 28 => ⟨S8x8192x4x128, .f32⟩
  | 29 => ⟨S8x8192x512, .f32⟩
  | 30 => ⟨S8x8192x4x128, .f32⟩
  | 31 => ⟨S8x8192x512, .f32⟩
  | 32 => ⟨S8x8192x4x128, .f32⟩
  | 33 => ⟨S8x8192x512, .f32⟩
  | 34 => ⟨S8x8192x4x128, .f32⟩
  | 35 => ⟨S8x8192x512, .f32⟩
  | 36 => ⟨S8x8192x4x128, .f32⟩
  | 37 => ⟨S8x8192x512, .f32⟩
  | 38 => ⟨S8x8192x4x128, .f32⟩
  | 39 => ⟨S8x8192x512, .f32⟩
  | 40 => ⟨S8x8192x4x128, .f32⟩
  | 41 => ⟨S8x8192x512, .f32⟩
  | 42 => ⟨S8x8192x4x128, .f32⟩
  | 43 => ⟨S8x8192x512, .f32⟩
  | 44 => ⟨S8x8192x4x128, .f32⟩
  | 45 => ⟨S8x8192x4x16, .f32⟩
  | 46 => ⟨S8x8192x4x16, .f32⟩
  | 47 => ⟨S8x8192x4x96, .f32⟩
  | 48 => ⟨S1x8192x1x16, .f32⟩
  | 49 => ⟨S1x8192x1x16, .f32⟩
  | 50 => ⟨S8x8192x4x16, .f32⟩
  | 51 => ⟨S8x8192x4x16, .f32⟩
  | 52 => ⟨S8x8192x4x16, .f32⟩
  | 53 => ⟨S8x8192x4x16, .f32⟩
  | 54 => ⟨S8x8192x4x16, .f32⟩
  | 55 => ⟨S8x8192x4x16, .f32⟩
  | 56 => ⟨S8x8192x4x16, .f32⟩
  | 57 => ⟨S8x8192x4x16, .f32⟩
  | 58 => ⟨S8x8192x4x16, .f32⟩
  | 59 => ⟨S8x8192x4x16, .f32⟩
  | 60 => ⟨S8x8192x4x128, .f32⟩
  | 61 => ⟨S8x8192x4x16, .f32⟩
  | 62 => ⟨S8x8192x4x16, .f32⟩
  | 63 => ⟨S8x8192x4x96, .f32⟩
  | 64 => ⟨S1x8192x1x16, .f32⟩
  | 65 => ⟨S1x8192x1x16, .f32⟩
  | 66 => ⟨S8x8192x4x16, .f32⟩
  | 67 => ⟨S8x8192x4x16, .f32⟩
  | 68 => ⟨S8x8192x4x16, .f32⟩
  | 69 => ⟨S8x8192x4x16, .f32⟩
  | 70 => ⟨S8x8192x4x16, .f32⟩
  | 71 => ⟨S8x8192x4x16, .f32⟩
  | 72 => ⟨S8x8192x4x16, .f32⟩
  | 73 => ⟨S8x8192x4x16, .f32⟩
  | 74 => ⟨S8x8192x4x16, .f32⟩
  | 75 => ⟨S8x8192x4x16, .f32⟩
  | 76 => ⟨S8x8192x4x128, .f32⟩
  | 77 => ⟨S8x8192x512, .f32⟩
  | 78 => ⟨S8x8192x512, .f32⟩
  | 79 => ⟨S8x8192x512, .f32⟩
  | 80 => ⟨S8x8192x1536, .f32⟩
  | 81 => ⟨S8x8192x1x1536, .f32⟩
  | 82 => ⟨S8x1x8192x1536, .f32⟩
  | 83 => ⟨S8x1x8192x1536, .bf16⟩
  | 84 => ⟨S8x8192x4x16, .f32⟩
  | 85 => ⟨S8x8192x4x16, .f32⟩
  | 86 => ⟨S8x8192x4x96, .f32⟩
  | 87 => ⟨S1x8192x1x16, .f32⟩
  | 88 => ⟨S1x8192x1x16, .f32⟩
  | 89 => ⟨S8x8192x4x16, .f32⟩
  | 90 => ⟨S8x8192x4x16, .f32⟩
  | 91 => ⟨S8x8192x4x16, .f32⟩
  | 92 => ⟨S8x8192x4x16, .f32⟩
  | 93 => ⟨S8x8192x4x16, .f32⟩
  | 94 => ⟨S8x8192x4x16, .f32⟩
  | 95 => ⟨S8x8192x4x16, .f32⟩
  | 96 => ⟨S8x8192x4x16, .f32⟩
  | 97 => ⟨S8x8192x4x16, .f32⟩
  | 98 => ⟨S8x8192x4x16, .f32⟩
  | 99 => ⟨S8x8192x4x128, .f32⟩
  | 100 => ⟨S8x8192x4x16, .f32⟩
  | 101 => ⟨S8x8192x4x16, .f32⟩
  | 102 => ⟨S8x8192x4x96, .f32⟩
  | 103 => ⟨S1x8192x1x16, .f32⟩
  | 104 => ⟨S1x8192x1x16, .f32⟩
  | 105 => ⟨S8x8192x4x16, .f32⟩
  | 106 => ⟨S8x8192x4x16, .f32⟩
  | 107 => ⟨S8x8192x4x16, .f32⟩
  | 108 => ⟨S8x8192x4x16, .f32⟩
  | 109 => ⟨S8x8192x4x16, .f32⟩
  | 110 => ⟨S8x8192x4x16, .f32⟩
  | 111 => ⟨S8x8192x4x16, .f32⟩
  | 112 => ⟨S8x8192x4x16, .f32⟩
  | 113 => ⟨S8x8192x4x16, .f32⟩
  | 114 => ⟨S8x8192x4x16, .f32⟩
  | 115 => ⟨S8x8192x4x128, .f32⟩
  | 116 => ⟨S8x8192x512, .f32⟩
  | 117 => ⟨S8x8192x512, .f32⟩
  | 118 => ⟨S8x8192x512, .f32⟩
  | 119 => ⟨S8x8192x1536, .f32⟩
  | 120 => ⟨S8x2048x4x1536, .f32⟩
  | 121 => ⟨S8x4x2048x1536, .f32⟩
  | 122 => ⟨S8x4x2048x1536, .bf16⟩
  | 123 => ⟨S8x8192x4x16, .f32⟩
  | 124 => ⟨S8x8192x4x16, .f32⟩
  | 125 => ⟨S8x8192x4x96, .f32⟩
  | 126 => ⟨S1x8192x1x16, .f32⟩
  | 127 => ⟨S1x8192x1x16, .f32⟩
  | _ => ⟨S8x8192x1024, .f32⟩

abbrev hbmTy0_1 (i : Nat) : BufTy := match i % 128 with
  | 0 => ⟨S8x8192x4x16, .f32⟩
  | 1 => ⟨S8x8192x4x16, .f32⟩
  | 2 => ⟨S8x8192x4x16, .f32⟩
  | 3 => ⟨S8x8192x4x16, .f32⟩
  | 4 => ⟨S8x8192x4x16, .f32⟩
  | 5 => ⟨S8x8192x4x16, .f32⟩
  | 6 => ⟨S8x8192x4x16, .f32⟩
  | 7 => ⟨S8x8192x4x16, .f32⟩
  | 8 => ⟨S8x8192x4x16, .f32⟩
  | 9 => ⟨S8x8192x4x16, .f32⟩
  | 10 => ⟨S8x8192x4x128, .f32⟩
  | 11 => ⟨S8x8192x4x16, .f32⟩
  | 12 => ⟨S8x8192x4x16, .f32⟩
  | 13 => ⟨S8x8192x4x96, .f32⟩
  | 14 => ⟨S1x8192x1x16, .f32⟩
  | 15 => ⟨S1x8192x1x16, .f32⟩
  | 16 => ⟨S8x8192x4x16, .f32⟩
  | 17 => ⟨S8x8192x4x16, .f32⟩
  | 18 => ⟨S8x8192x4x16, .f32⟩
  | 19 => ⟨S8x8192x4x16, .f32⟩
  | 20 => ⟨S8x8192x4x16, .f32⟩
  | 21 => ⟨S8x8192x4x16, .f32⟩
  | 22 => ⟨S8x8192x4x16, .f32⟩
  | 23 => ⟨S8x8192x4x16, .f32⟩
  | 24 => ⟨S8x8192x4x16, .f32⟩
  | 25 => ⟨S8x8192x4x16, .f32⟩
  | 26 => ⟨S8x8192x4x128, .f32⟩
  | 27 => ⟨S8x8192x512, .f32⟩
  | 28 => ⟨S8x8192x512, .f32⟩
  | 29 => ⟨S8x8192x512, .f32⟩
  | 30 => ⟨S8x8192x1536, .f32⟩
  | 31 => ⟨S8x512x16x1536, .f32⟩
  | 32 => ⟨S8x16x512x1536, .f32⟩
  | 33 => ⟨S8x16x512x1536, .bf16⟩
  | 34 => ⟨S65536x1024, .f32⟩
  | 35 => ⟨S65536x1024, .bf16⟩
  | 36 => ⟨S65536x1536, .bf16⟩
  | 37 => ⟨S16384x2048, .f32⟩
  | 38 => ⟨S16384x2048, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩

abbrev nD : Nat := 1
abbrev τ : Topo := Topo.v7x

variable {F : FTy → Type} [FloatOps F]
-- ==== Proof.AttnMath.lean ====
/- The arithmetic of one row of windowed attention over the extended reals: the running maximum, the softmax weights and
   the weighted sums, stated over ALL keys of the sequence with the keys outside the band scored minus infinity, and the
   fact that a row computed over any window of keys that covers the band gives the same three quantities. Nothing here
   mentions a program. -/
module

public import Idealize.ShloMosaic.PureOps.Ideal
public import Mathlib.Analysis.SpecialFunctions.Pow.Real

@[expose] public section
noncomputable section
namespace Cert.AttnMath
open Idealize.ShloMosaic

/-- The largest score of a row, minus infinity for an empty row. -/
def rowMax {n : ℕ} (S : Fin n → EReal) : EReal := Finset.univ.fold max ⊥ S

/-- The unnormalised softmax weight of key `u`. -/
def rowW {n : ℕ} (S : Fin n → EReal) (u : Fin n) : EReal := Ideal.exp (S u - rowMax S)

/-- The softmax denominator of the row. -/
def rowSum {n : ℕ} (S : Fin n → EReal) : EReal := ∑ u, rowW S u

/-- The weighted sum of one value column over the row. -/
def rowNum {n : ℕ} (S v : Fin n → EReal) : EReal := ∑ u, rowW S u * v u

/-- `f` is the row `S` seen through a window of `n` keys that starts 64 keys before key `off`: it agrees with `S` on the keys
    of the window, is minus infinity at window places that are no key, and `S` is minus infinity off the window. -/
structure Win {n L : ℕ} (off : ℕ) (f : Fin n → EReal) (S : Fin L → EReal) : Prop where
  on : ∀ (k : Fin n) (u : Fin L), u.val + 64 = off + k.val → f k = S u
  out : ∀ k : Fin n, (∀ u : Fin L, u.val + 64 ≠ off + k.val) → f k = ⊥
  off : ∀ u : Fin L, (∀ k : Fin n, u.val + 64 ≠ off + k.val) → S u = ⊥

theorem rowMax_eq_sup {n : ℕ} (S : Fin n → EReal) : rowMax S = Finset.univ.sup S := rfl

/-- A sum over the window is the sum over the sequence when the terms agree on the window and vanish elsewhere. -/
theorem sum_win {n L : ℕ} (off : ℕ) (a : Fin n → EReal) (b : Fin L → EReal)
    (on : ∀ (k : Fin n) (u : Fin L), u.val + 64 = off + k.val → a k = b u)
    (out : ∀ k : Fin n, (∀ u : Fin L, u.val + 64 ≠ off + k.val) → a k = 0)
    (hoff : ∀ u : Fin L, (∀ k : Fin n, u.val + 64 ≠ off + k.val) → b u = 0) : ∑ k, a k = ∑ u, b u := by
  classical
  have key : ∀ k : Fin n, a k ≠ 0 → ∃ u : Fin L, u.val + 64 = off + k.val := fun k hk => by
    by_contra h; push Not at h; exact hk (out k h)
  refine Finset.sum_bij_ne_zero (fun k _ hk => (key k hk).choose) (fun _ _ _ => Finset.mem_univ _) ?_ ?_ ?_
  · intro k _ hk k' _ hk' e
    have h1 := (key k hk).choose_spec
    have h2 := (key k' hk').choose_spec
    rw [e] at h1; apply Fin.ext; omega
  · intro u _ hu
    have : ∃ k : Fin n, u.val + 64 = off + k.val := by
      by_contra h; push Not at h; exact hu (hoff u h)
    obtain ⟨k, hk⟩ := this
    have hak : a k ≠ 0 := by rw [on k u hk]; exact hu
    refine ⟨k, Finset.mem_univ _, hak, ?_⟩
    have h1 := (key k hak).choose_spec
    apply Fin.ext; omega
  · intro k _ hk
    exact on k _ (key k hk).choose_spec

variable {n L : ℕ} {off : ℕ} {f : Fin n → EReal} {S : Fin L → EReal}

/-- The window has the row's maximum. -/
theorem Win.max_eq (h : Win off f S) : rowMax f = rowMax S := by
  rw [rowMax_eq_sup, rowMax_eq_sup]
  apply le_antisymm
  · refine Finset.sup_le fun k _ => ?_
    by_cases hk : ∃ u : Fin L, u.val + 64 = off + k.val
    · obtain ⟨u, hu⟩ := hk
      rw [h.on k u hu]; exact Finset.le_sup (f := S) (Finset.mem_univ u)
    · push Not at hk; rw [h.out k hk]; exact bot_le
  · refine Finset.sup_le fun u _ => ?_
    by_cases hu : ∃ k : Fin n, u.val + 64 = off + k.val
    · obtain ⟨k, hk⟩ := hu
      rw [← h.on k u hk]; exact Finset.le_sup (f := f) (Finset.mem_univ k)
    · push Not at hu; rw [h.off u hu]; exact bot_le

theorem exp_bot_sub (M : EReal) : Ideal.exp (⊥ - M) = 0 := by
  rw [sub_eq_add_neg, EReal.bot_add]; rfl

/-- The window's weighted sum is the row's. -/
theorem Win.num_eq (h : Win off f S) (V : Fin n → EReal) (v : Fin L → EReal)
    (hv : ∀ (k : Fin n) (u : Fin L), u.val + 64 = off + k.val → V k = v u) :
    ∑ k, Ideal.exp (f k - rowMax f) * V k = rowNum S v := by
  refine sum_win off _ _ (fun k u hku => ?_) (fun k hk => ?_) (fun u hu => ?_)
  · rw [h.max_eq, h.on k u hku, hv k u hku]; rfl
  · rw [h.out k hk, exp_bot_sub, zero_mul]
  · rw [rowW, h.off u hu, exp_bot_sub, zero_mul]

/-- The window's sum of weights is the row's. -/
theorem Win.sum_eq (h : Win off f S) : ∑ k, Ideal.exp (f k - rowMax f) = rowSum S := by
  have := h.num_eq (fun _ => 1) (fun _ => 1) (fun _ _ _ => rfl)
  simpa only [rowNum, rowSum, mul_one] using this

/-- One over the natural logarithm of two, the factor between the two bases of the exponential. -/
def lam : ℝ := (Real.log 2)⁻¹

theorem log2_pos : (0 : ℝ) < Real.log 2 := Real.log_pos (by norm_num)
theorem lam_pos : (0 : ℝ) < lam := inv_pos.mpr log2_pos

/-- Scaling by `lam` keeps order and minus infinity, so it passes through the maximum. -/
theorem rowMax_scale (g : Fin n → EReal) : rowMax (fun k => g k * (lam : EReal)) = rowMax g * (lam : EReal) := by
  have hl : (0 : EReal) < (lam : EReal) := by exact_mod_cast lam_pos
  rw [rowMax_eq_sup, rowMax_eq_sup]
  symm
  have := Finset.comp_sup_eq_sup_comp_of_is_total (s := Finset.univ) (f := g) (fun x : EReal => x * (lam : EReal))
    (fun a b hab => mul_le_mul_of_nonneg_right hab hl.le) (EReal.bot_mul_of_pos hl)
  exact this

theorem scale_unscale (x : EReal) : x * (lam : EReal) * ((Real.log 2 : ℝ) : EReal) = x := by
  rw [mul_assoc, ← EReal.coe_mul, lam, inv_mul_cancel₀ log2_pos.ne', EReal.coe_one, mul_one]

/-- Two to the scaled difference is the exponential of the difference. -/
theorem exp2_scale (x : EReal) : Ideal.exp2 (x * (lam : EReal)) = Ideal.exp x := by
  have hl : (0 : EReal) < (lam : EReal) := by exact_mod_cast lam_pos
  induction x using EReal.rec with
  | bot => rw [EReal.bot_mul_of_pos hl]; rfl
  | top => rw [EReal.top_mul_of_pos hl]; rfl
  | coe r =>
    rw [← EReal.coe_mul]
    show ((Real.rpow 2 (r * lam) : ℝ) : EReal) = ((Real.exp r : ℝ) : EReal)
    congr 1
    show (2 : ℝ) ^ (r * lam) = _
    rw [Real.rpow_def_of_pos (by norm_num)]
    congr 1
    rw [lam]; field_simp [log2_pos.ne']

theorem sub_scale (a b : EReal) : a * (lam : EReal) - b * (lam : EReal) = (a - b) * (lam : EReal) := by
  have hl : (0 : EReal) ≤ (lam : EReal) := by exact_mod_cast lam_pos.le
  rw [sub_eq_add_neg, sub_eq_add_neg, ← EReal.neg_mul, mul_comm (a + -b), mul_comm a, mul_comm (-b),
    EReal.left_distrib_of_nonneg_of_ne_top hl (EReal.coe_ne_top _)]

/-- A weight computed in base two from scaled scores is the weight in base e. -/
theorem weight_scale (g : Fin n → EReal) (k : Fin n) :
    Ideal.exp2 (g k * (lam : EReal) - rowMax (fun k => g k * (lam : EReal))) = Ideal.exp (g k - rowMax g) := by
  rw [rowMax_scale, sub_scale, exp2_scale]

/-- The maximum of scaled scores, scaled back. -/
theorem Win.max_scaled (h : Win off f S) :
    rowMax (fun k => f k * (lam : EReal)) * ((Real.log 2 : ℝ) : EReal) = rowMax S := by
  rw [rowMax_scale, scale_unscale, h.max_eq]

/-- The weighted sum computed in base two from scaled scores over the window is the row's. -/
theorem Win.num_scaled (h : Win off f S) (V : Fin n → EReal) (v : Fin L → EReal)
    (hv : ∀ (k : Fin n) (u : Fin L), u.val + 64 = off + k.val → V k = v u) :
    ∑ k, Ideal.exp2 (f k * (lam : EReal) - rowMax (fun k => f k * (lam : EReal))) * V k = rowNum S v := by
  rw [← h.num_eq V v hv]
  exact Finset.sum_congr rfl fun k _ => by rw [weight_scale f k]

/-- The reciprocal of the square root of the head's width. -/
def rs : ℝ := (Real.sqrt 128)⁻¹

theorem rs_pos : (0 : ℝ) < rs := inv_pos.mpr (Real.sqrt_pos.mpr (by norm_num))

/-- The score of one query row against one key row. -/
def score (q k : Fin 128 → EReal) : EReal := (∑ d, q d * k d) * (rs : EReal)

/-- The scores of query `t` against every key of its sequence, minus infinity farther than 64 keys away. -/
def bandScore {L : ℕ} (t : ℕ) (q : Fin 128 → EReal) (k : Fin L → Fin 128 → EReal) (u : Fin L) : EReal :=
  if u.val ≤ t + 64 ∧ t ≤ u.val + 64 then score q (k u) else ⊥

/-- The window of `n` keys from key `off - 64` on is a window of query `t`'s banded scores when it covers the band. -/
theorem win_bandScore {n L : ℕ} {t off : ℕ} (q : Fin 128 → EReal) (k : Fin L → Fin 128 → EReal) (f : Fin n → EReal)
    (h0 : off ≤ t) (h1 : t + 128 < off + n)
    (hf : ∀ (j : Fin n) (u : Fin L), u.val + 64 = off + j.val → f j = bandScore t q k u)
    (hout : ∀ j : Fin n, (∀ u : Fin L, u.val + 64 ≠ off + j.val) → f j = ⊥) : Win off f (bandScore t q k) where
  on := hf
  out := hout
  off u hu := by
    unfold bandScore
    rw [if_neg]
    rintro ⟨ha, hb⟩
    exact hu ⟨u.val + 64 - off, by omega⟩ (by simp only; omega)

end Cert.AttnMath
end
-- ==== Proof.AttnWords.lean ====
/- Comparisons of 32-bit words that hold small integers, as the attention masks make them: the words' signed readings are
   the integers, so each comparison is the integers'. -/
module

public import Idealize.ShloMosaic.PureOps.Vector
public import Idealize.ShloMosaic.Lib.WordArith
public import Idealize.ShloMosaic.PureOps.Ideal

@[expose] public section
noncomputable section
namespace Cert.AttnWords
open Idealize.ShloMosaic

/-- The word of a number below two to the thirty-one reads as that number. -/
theorem nat_word {n : ℕ} (h : n < 2147483648) : (BitVec.ofNat 32 n).toInt = (n : ℤ) := by
  rw [BitVec.toInt_ofNat']
  apply Int.bmod_eq_of_le <;> omega

theorem add_word {x y : BitVec 32} {a b : ℤ} (hx : x.toInt = a) (hy : y.toInt = b) (h1 : -1073741824 ≤ a + b) (h2 : a + b < 1073741824) :
    (IntOp.addi x y).toInt = a + b := by
  show (x + y).toInt = _
  rw [BitVec.toInt_add, hx, hy]
  apply Int.bmod_eq_of_le <;> omega

theorem sub_word {x y : BitVec 32} {a b : ℤ} (hx : x.toInt = a) (hy : y.toInt = b) (h1 : -1073741824 ≤ a - b) (h2 : a - b < 1073741824) :
    (IntOp.subi x y).toInt = a - b := by
  show (x - y).toInt = _
  rw [BitVec.toInt_sub, hx, hy]
  apply Int.bmod_eq_of_le <;> omega

theorem mul_word {x y : BitVec 32} {a b : ℤ} (hx : x.toInt = a) (hy : y.toInt = b) (h1 : -1073741824 ≤ a * b) (h2 : a * b < 1073741824) :
    (IntOp.muli x y).toInt = a * b := by
  show (x * y).toInt = _
  rw [BitVec.toInt_mul, hx, hy]
  apply Int.bmod_eq_of_le <;> omega

theorem abs_word {x : BitVec 32} {a : ℤ} (hx : x.toInt = a) (h1 : -1073741824 ≤ a) (h2 : a < 1073741824) :
    (IntOp.absi x).toInt = |a| := by
  unfold IntOp.absi
  by_cases hm : x.msb = true
  · have hneg : a < 0 := by rw [← hx]; exact (BitVec.msb_eq_toInt.symm.trans hm |> of_decide_eq_true)
    rw [if_pos hm, BitVec.toInt_neg, hx, abs_of_neg hneg]
    apply Int.bmod_eq_of_le <;> omega
  · have hn : ¬ a < 0 := by
      rw [← hx]; intro h; exact hm (BitVec.msb_eq_toInt.trans (decide_eq_true h))
    rw [if_neg hm, hx, abs_of_nonneg (by omega)]

theorem sle_word {x y : BitVec 32} {a b : ℤ} (hx : x.toInt = a) (hy : y.toInt = b) :
    IntOp.cmpi .sle x y = BitVec.ofBool (decide (a ≤ b)) := by
  show BitVec.ofBool (x.sle y) = _
  rw [BitVec.sle, hx, hy]

theorem sge_word {x y : BitVec 32} {a b : ℤ} (hx : x.toInt = a) (hy : y.toInt = b) :
    IntOp.cmpi .sge x y = BitVec.ofBool (decide (b ≤ a)) := by
  show BitVec.ofBool (y.sle x) = _
  rw [BitVec.sle, hx, hy]

theorem slt_word {x y : BitVec 32} {a b : ℤ} (hx : x.toInt = a) (hy : y.toInt = b) :
    IntOp.cmpi .slt x y = BitVec.ofBool (decide (a < b)) := by
  show BitVec.ofBool (x.slt y) = _
  rw [BitVec.slt, hx, hy]

theorem and_word (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_word {α : Type} (p : Prop) [Decidable p] (a b : α) :
    Scalar.select (BitVec.ofBool (decide p)) a b = if p then a else b := by
  by_cases hp : p <;> simp [hp, Scalar.select]

/-- A small number's word equals a word exactly when the numbers do. -/
theorem eq_word {n : ℕ} (h : n < 4294967296) (a : BitVec 32) :
    IntOp.cmpi .eq (BitVec.ofNat 32 n) a = BitVec.ofBool (decide (n = a.toNat)) := by
  show BitVec.ofBool (BitVec.ofNat 32 n == a) = _
  congr 1
  rw [Bool.eq_iff_iff, beq_iff_eq, decide_eq_true_eq, ← BitVec.toNat_inj, BitVec.toNat_ofNat, Nat.mod_eq_of_lt h]

/-- The distance test of two positions. -/
theorem band_word {x y : BitVec 32} {a b : ℤ} (hx : x.toInt = a) (hy : y.toInt = b) (ha : |a| < 100000000) (hb : |b| < 100000000) :
    IntOp.cmpi .sle (IntOp.absi (IntOp.subi x y)) 64#32 = BitVec.ofBool (decide (a ≤ b + 64 ∧ b ≤ a + 64)) := by
  rw [abs_lt] at ha hb
  rw [sle_word (abs_word (sub_word hx hy (by omega) (by omega)) (by omega) (by omega)) (show (64#32).toInt = 64 by decide)]
  congr 2
  rw [abs_le]
  exact propext ⟨fun h => ⟨by omega, by omega⟩, fun h => ⟨by omega, by omega⟩⟩

end Cert.AttnWords
end
-- ==== Proof.AttnTile.lean ====
/- One tile of the attention kernel: 128 query rows of one head against a window of 256 keys. `tile…` are what the kernel's body
   computes for a tile, over variable operands; the theorems read them at an index and set them beside the row quantities
   of `AttnMath`. -/
module

public import proofs.«01_k».proof.Proof.Gen.Attn1Ideal.Value
public import proofs.«01_k».proof.Proof.AttnMath
public import proofs.«01_k».proof.Proof.AttnWords
public import Idealize.ShloMosaic.Lib.Pipeline.ValueKit
public import Idealize.ShloMosaic.Lib.Pipeline.ReadBack
public import Idealize.ShloMosaic.Lib.Pointwise

@[expose] public section
set_option maxRecDepth 16384
noncomputable section
namespace Cert.AttnTile
open Cert.Attn1Ideal Cert.Attn1Ideal.Gen Idealize.ShloMosaic Idealize.ShloMosaic.TcCoe Idealize.SL.Sem Cert.AttnMath Cert.AttnWords

/-- The bias of a tile whose first query is `j * qblk + q0` of a sequence of `len`: zero inside the band and the sequence, the mask elsewhere. -/
def tileBias (mk : Ideal .f32) (qblk len j q0 : BitVec 32) : FVec Ideal S128x256 .f32 :=
  addf (select (cmpi .sle (absi (subi (subi (iota .tc S128x256 32 [1] iota_S128x256_d1_w32) (broadcast S128x256 64#32)) (iota .tc S128x256 32 [0] iota_S128x256_d0_w32)))
      (broadcast S128x256 64#32)) (broadcast S128x256 (Scalar.ofBits .f32 0x00000000#32 : Ideal .f32)) (broadcast S128x256 mk))
   (broadcastTo S128x256 (select
    (andi
      (cmpi .sge (addi (broadcast S1x256 (Scalar.subi (Scalar.addi (Scalar.muli j qblk) q0) 64#32)) (iota .tc S1x256 32 [1] iota_S1x256_d1_w32)) (broadcast S1x256 0#32))
      (cmpi .slt (addi (broadcast S1x256 (Scalar.subi (Scalar.addi (Scalar.muli j qblk) q0) 64#32)) (iota .tc S1x256 32 [1] iota_S1x256_d1_w32)) (broadcast S1x256 len)))
    (broadcast S1x256 (Scalar.ofBits .f32 0x00000000#32 : Ideal .f32)) (broadcast S1x256 mk)) broadcasts_S1x256_S128x256)

/-- The tile's scaled and biased scores. -/
def tileS (sc : Ideal .f32) (b : FVec Ideal S128x256 .f32) (q : Vec Ideal S1x1x128x128 .bf16) (k : Vec Ideal S256x128 .bf16) : FVec Ideal S128x256 .f32 :=
  addf (mulf (matmul (φ₁ := .bf16) (φ₂ := .bf16) dot_S128x128_S256x128_S128x256_1_1_0_0_n_n none (shapeCast S128x128 q shapeCasts_S1x1x128x128_S128x128 : FVec Ideal S128x128 .bf16) (k : FVec Ideal S256x128 .bf16)
    (constant S128x256 .f32 0x00000000#32)) (broadcast S128x256 sc)) b

/-- The row maxima of a tile of scores, as a column. -/
def tileM (s : FVec Ideal S128x256 .f32) : FVec Ideal S128x1 .f32 :=
  shapeCast S128x1 (multiReduction .maximumf [1] S128 s 0xFF800000#32 reduces_S128x256_S128 (.inl rfl) rfl) shapeCasts_S128_S128x1

/-- The tile's weights times its values and its ones. -/
def tilePV (s : FVec Ideal S128x256 .f32) (v : Vec Ideal S256x256 .bf16) : FVec Ideal S128x256 .f32 :=
  matmul (φ₁ := .bf16) (φ₂ := .bf16) dot_S128x256_S256x256_S128x256_1_0_0_1_n_n none
    (truncf .bf16 (exp2 (subf s (broadcastTo S128x256 (tileM s) broadcasts_S128x1_S128x256))) bitsLt_bf16_f32) v
    (constant S128x256 .f32 0x00000000#32)

/-- The tile's stored numerators. -/
def tileO (s : FVec Ideal S128x256 .f32) (v : Vec Ideal S256x256 .bf16) : Vec Ideal S1x1x128x128 .f32 :=
  shapeCast S1x1x128x128 (extractStridedSlice S128x128 ![0, 0] (tilePV s v) slices_S128x256_o0_0_S128x128) shapeCasts_S128x128_S1x1x128x128

/-- The tile's denominators, in every lane. -/
def tileL (s : FVec Ideal S128x256 .f32) (v : Vec Ideal S256x256 .bf16) : FVec Ideal S128x128 .f32 :=
  extractStridedSlice S128x128 ![0, 128] (tilePV s v) slices_S128x256_o0_128_S128x128

/-- One head's step of the statistics tile: its scaled-back maximum in lane `a`, its denominator in lane `b`. -/
def tileStep (ln : Ideal .f32) (a b : BitVec 32) (s : FVec Ideal S128x256 .f32) (v : Vec Ideal S256x256 .bf16) (acc : FVec Ideal S128x128 .f32) : FVec Ideal S128x128 .f32 :=
  select (cmpi .eq (iota .tc S128x128 32 [1] iota_S128x128_d1_w32) (broadcast S128x128 a))
    (broadcastTo S128x128 (shapeCast S128x1 (mulf (tileM s) (broadcast S128x1 ln)) shapeCasts_S128x1_S128x1) broadcasts_S128x1_S128x128)
    (select (cmpi .eq (iota .tc S128x128 32 [1] iota_S128x128_d1_w32) (broadcast S128x128 b)) (tileL s v) acc)

/-- The stored statistics tile: ones, then the four heads' steps. -/
def tileSt (ln : Ideal .f32) (s₀ s₁ s₂ s₃ : FVec Ideal S128x256 .f32) (v₀ v₁ v₂ v₃ : Vec Ideal S256x256 .bf16) : Vec Ideal S1x1x128x128 .f32 :=
  shapeCast S1x1x128x128 (tileStep ln 3#32 7#32 s₃ v₃ (tileStep ln 2#32 6#32 s₂ v₂ (tileStep ln 1#32 5#32 s₁ v₁ (tileStep ln 0#32 4#32 s₀ v₀
    (broadcast S128x128 (Scalar.ofBits .f32 0x3F800000#32 : Ideal .f32)))))) shapeCasts_S128x128_S1x1x128x128

theorem max_bits : Ideal.ofBits .f32 4286578688#32 = ⊥ := by simp [Ideal.ofBits, Ideal.ieee]

theorem tileS_at (sc b q k i) : tileS sc b q k i = (∑ d : Fin 128, q (ix4 (0 : Fin 1) (0 : Fin 1) (i 0) d) * k (ix2 (i 1) d)) * sc + b i := by
  pointwise [tileS]

theorem tileM_at (s i) : tileM s i = rowMax fun j : Fin 256 => s (ix2 (i 0) j) := by
  pointwise [tileM]
  rw [max_bits]; rfl

theorem tilePV_at (s v i) : tilePV s v i = ∑ j : Fin 256, Ideal.exp2 (s (ix2 (i 0) j) - rowMax fun j : Fin 256 => s (ix2 (i 0) j)) * v (ix2 j (i 1)) := by
  pointwise [tilePV, tileM_at]
  rfl

theorem tileBias_at (mk qblk len j q0) (hmk : mk = ⊥) (base n : ℕ) (hb : (Scalar.addi (Scalar.muli j qblk) q0).toInt = (base : ℤ)) (hl : len.toInt = (n : ℤ)) (h1 : base < 1000000) (h2 : n < 1000000) (i) :
    tileBias mk qblk len j q0 i = if (i 1).val ≤ (i 0).val + 128 ∧ (i 0).val ≤ (i 1).val ∧ 64 ≤ base + (i 1).val ∧ base + (i 1).val < n + 64 then 0 else ⊥ := by
  pointwise [tileBias]
  have hk : (i 1).val < 256 := (i 1).isLt
  have ha : (i 0).val < 128 := (i 0).isLt
  have e64 : (64#32).toInt = 64 := by decide
  have e0 : (0#32).toInt = 0 := by decide
  have w1 := nat_word (n := (i 1).val) (by omega)
  have w0 := nat_word (n := (i 0).val) (by omega)
  have wk := add_word (sub_word hb e64 (by omega) (by omega)) w1 (by omega) (by omega)
  rw [band_word (sub_word w1 e64 (by omega) (by omega)) w0 (by rw [abs_lt]; omega) (by rw [abs_lt]; omega)]
  erw [sge_word wk e0, slt_word wk hl]
  rw [and_word, select_word, select_word, hmk]
  split_ifs <;> first | (exfalso; omega) | simp

theorem tileO_at (s v i) : tileO s v i = ∑ j : Fin 256, Ideal.exp2 (s (ix2 (i 2) j) - rowMax fun j : Fin 256 => s (ix2 (i 2) j)) * v (ix2 j ⟨(i 3).val, by have : (i 3).val < 128 := (i 3).isLt; omega⟩) := by
  pointwise [tileO, tilePV_at]

theorem tileL_at (s v i) : tileL s v i = ∑ j : Fin 256, Ideal.exp2 (s (ix2 (i 0) j) - rowMax fun j : Fin 256 => s (ix2 (i 0) j)) * v (ix2 j ⟨128 + (i 1).val, by have : (i 1).val < 128 := (i 1).isLt; omega⟩) := by
  pointwise [tileL, tilePV_at]

theorem tileStep_at (ln a b s v acc i) : tileStep ln a b s v acc i = if (i 1).val = a.toNat then (rowMax fun j : Fin 256 => s (ix2 (i 0) j)) * ln else if (i 1).val = b.toNat then tileL s v i else acc i := by
  pointwise [tileStep, tileM_at]
  rw [eq_word, eq_word, select_word, select_word] <;> exact lt_trans (show (i 1).val < 128 from (i 1).isLt) (by decide)

/-- A query row of a tile, its scores seen as a window of the query's banded scores over the whole sequence, scaled by `lam`. -/
theorem tile_row {L : ℕ} (base t : ℕ) (a : Fin 128) (ht : t = base + a.val) (htL : t < L)
    (b : FVec Ideal S128x256 .f32) (q : Vec Ideal S1x1x128x128 .bf16) (k : Vec Ideal S256x128 .bf16)
    (Q : Fin 128 → EReal) (K : Fin L → Fin 128 → EReal)
    (hb : ∀ j : Fin 256, b (ix2 a j) = if j.val ≤ a.val + 128 ∧ a.val ≤ j.val ∧ 64 ≤ base + j.val ∧ base + j.val < L + 64 then 0 else ⊥)
    (hq : ∀ d : Fin 128, q (ix4 (0 : Fin 1) (0 : Fin 1) a d) = Q d)
    (hk : ∀ (j : Fin 256) (u : Fin L), u.val + 64 = base + j.val → ∀ d : Fin 128, k (ix2 j d) = K u d) :
    ∃ f : Fin 256 → EReal, Win base f (bandScore t Q K) ∧
      (fun j : Fin 256 => tileS (((Real.log 2)⁻¹ * (Real.sqrt 128)⁻¹ : ℝ) : EReal) b q k (ix2 a j)) = fun j => f j * (lam : EReal) := by
  refine ⟨fun j => if j.val ≤ a.val + 128 ∧ a.val ≤ j.val ∧ 64 ≤ base + j.val ∧ base + j.val < L + 64 then score Q (fun d => k (ix2 j d)) else ⊥, ?_, ?_⟩
  · refine win_bandScore Q K _ (by omega) (by omega) (fun j u hu => ?_) (fun j hj => ?_)
    · have hkk : (fun d : Fin 128 => (k (ix2 j d) : EReal)) = K u := funext fun d => hk j u hu d
      have := u.isLt
      simp only [bandScore, hkk]
      split_ifs <;> first | rfl | (exfalso; omega)
    · rw [if_neg]
      rintro ⟨_, _, h1, h2⟩
      exact hj ⟨base + j.val - 64, by omega⟩ (by simp only; omega)
  · funext j
    rw [tileS_at]
    show (∑ d : Fin 128, q (ix4 (0 : Fin 1) (0 : Fin 1) a d) * k (ix2 j d)) * (((Real.log 2)⁻¹ * (Real.sqrt 128)⁻¹ : ℝ) : EReal) + b (ix2 a j) = _
    rw [hb j]
    have hl : (0 : EReal) < (lam : EReal) := by exact_mod_cast lam_pos
    by_cases hA : j.val ≤ a.val + 128 ∧ a.val ≤ j.val ∧ 64 ≤ base + j.val ∧ base + j.val < L + 64
    · simp only [if_pos hA, add_zero, score]
      rw [mul_assoc, ← EReal.coe_mul, mul_comm rs lam]
      simp only [hq]; rfl
    · simp only [if_neg hA]
      rw [EReal.add_bot, EReal.bot_mul_of_pos hl]

end Cert.AttnTile
-- ==== Proof.AttnBlock.lean ====
/- The attention kernel's scratch buffers and stores at one grid point: what the key and value buffers hold, what a tile loads from them, and
   the two output blocks' stores as one family of tiles. -/
module

public import proofs.«01_k».proof.Proof.AttnTile
public import Idealize.ShloMosaic.Lib.WholeRead

@[expose] public section
set_option maxRecDepth 16384
noncomputable section
namespace Cert.AttnBlock
open Cert.Attn1Ideal Cert.Attn1Ideal.Gen Idealize.ShloMosaic Idealize.ShloMosaic.TcCoe Idealize.SL.Sem Cert.AttnMath Cert.AttnWords Cert.AttnTile

/-- A load of a box of rows and lanes through a whole memref of one block. -/
theorem rows_load {sig : RefSig} {κ : Kind} {sp : Space} {e : EltTy} {N W n w r c : ℕ} {M : Memref sig κ sp ⟨4, ![1, 1, N, W]⟩ e} (hM : M.IsWhole)
    (X : Vec Ideal ⟨4, ![1, 1, N, W]⟩ e) (hb) (i : Fin 1) (j : Fin 1) (a : Fin n) (b : Fin w) (hr : r + a.val < N) (hc : c + b.val < W) :
    View.readAt (Elt Ideal) M.view (Rect.unit (s := ⟨4, ![1, 1, N, W]⟩) ![0, 0, r, c] ![1, 1, n, w] hb).toLoadRect (hM.unread X) (ix4 i j a b)
      = X (ix4 i j (⟨r + a.val, hr⟩ : Fin N) (⟨c + b.val, hc⟩ : Fin W)) := by
  rw [Memref.IsWhole.readAt_unread]
  congr 1
  funext k
  apply Fin.ext
  rw [LoadRect.idx_apply]
  fin_cases k <;> simp

theorem bnd3 {n w N W r c : ℕ} (hr : r + n ≤ N) (hc : c + w ≤ W) : ∀ a : Fin 3, ![0, r, c] a + ![1, n, w] a ≤ ![1, N, W] a := fun a => by
  fin_cases a <;> simp <;> assumption

theorem bnd2 {n w N W r c : ℕ} (hr : r + n ≤ N) (hc : c + w ≤ W) : ∀ a : Fin 2, ![r, c] a + ![n, w] a ≤ ![N, W] a := fun a => by
  fin_cases a <;> simp <;> assumption

theorem bnd4 {n w N W r c : ℕ} (hr : r + n ≤ N) (hc : c + w ≤ W) : ∀ a : Fin 4, ![0, 0, r, c] a + ![1, 1, n, w] a ≤ ![1, 1, N, W] a := fun a => by
  fin_cases a <;> simp <;> assumption

variable (t : Fin cfg0.N) (x0 x1 x4 : Vec Ideal S1x1x2048x512 .bf16) (x2 x3 x5 x6 : Vec Ideal S1x1x64x512 .bf16)

/-- The key buffer's stores, last first: the rows after the block, the block, the rows before it. -/
def KL : List (View.Piece (Elt Ideal) S1x2176x512 .bf16) :=
  [⟨Rect.unit ![0, 2112, 0] S1x64x512.size (by decide), k0_pay5 (View.readAt (Elt Ideal) (ms0_3 t).view (Rect.unit ![0, 0, 0, 0] S1x1x64x512.size inb_S1x1x64x512_S1x1x64x512_0_0_0_0).toLoadRect ((hs0_3 t).unread x3))⟩,
   ⟨Rect.unit ![0, 64, 0] S1x2048x512.size (by decide), k0_pay4 (View.readAt (Elt Ideal) (ms0_1 t).view (Rect.unit ![0, 0, 0, 0] S1x1x2048x512.size inb_S1x1x2048x512_S1x1x2048x512_0_0_0_0).toLoadRect ((hs0_1 t).unread x1))⟩,
   ⟨Rect.unit ![0, 0, 0] S1x64x512.size (by decide), k0_pay3 (View.readAt (Elt Ideal) (ms0_2 t).view (Rect.unit ![0, 0, 0, 0] S1x1x64x512.size inb_S1x1x64x512_S1x1x64x512_0_0_0_0).toLoadRect ((hs0_2 t).unread x2))⟩]

/-- The rows of three blocks, one above the other. -/
def ext {W : ℕ} (xp : Vec Ideal ⟨4, ![1, 1, 64, W]⟩ .bf16) (xm : Vec Ideal ⟨4, ![1, 1, 2048, W]⟩ .bf16) (xn : Vec Ideal ⟨4, ![1, 1, 64, W]⟩ .bf16) (r : ℕ) (hr : r < 2176) (d : Fin W) : EReal :=
  if h : r < 64 then xp (ix4 (0 : Fin 1) (0 : Fin 1) (⟨r, h⟩ : Fin 64) d)
  else if h' : r < 2112 then xm (ix4 (0 : Fin 1) (0 : Fin 1) (⟨r - 64, by omega⟩ : Fin 2048) d)
  else xn (ix4 (0 : Fin 1) (0 : Fin 1) (⟨r - 2112, by omega⟩ : Fin 64) d)

/-- What the key buffer holds. -/
def kext : Vec Ideal S1x2176x512 .bf16 := fun y => ext x2 x1 x3 (y 1).val (y 1).isLt (y 2)

section
variable {W : ℕ} (xp : Vec Ideal ⟨4, ![1, 1, 64, W]⟩ .bf16) (xm : Vec Ideal ⟨4, ![1, 1, 2048, W]⟩ .bf16) (xn : Vec Ideal ⟨4, ![1, 1, 64, W]⟩ .bf16)

theorem ext_prev (r : ℕ) (hr : r < 2176) (d : Fin W) (a : Fin 64) (h : r = a.val) : ext xp xm xn r hr d = xp (ix4 (0 : Fin 1) (0 : Fin 1) a d) := by
  subst h; unfold ext; rw [dif_pos a.isLt]

theorem ext_mid (r : ℕ) (hr : r < 2176) (d : Fin W) (a : Fin 2048) (h : r = 64 + a.val) : ext xp xm xn r hr d = xm (ix4 (0 : Fin 1) (0 : Fin 1) a d) := by
  subst h; unfold ext; rw [dif_neg (by omega), dif_pos (by omega)]; congr; simp

theorem ext_next (r : ℕ) (hr : r < 2176) (d : Fin W) (a : Fin 64) (h : r = 2112 + a.val) : ext xp xm xn r hr d = xn (ix4 (0 : Fin 1) (0 : Fin 1) a d) := by
  subst h; unfold ext; rw [dif_neg (by omega), dif_neg (by omega)]; congr; simp
end

/-- Two entries of a block at the same row and lane. -/
theorem at_eq {N W : ℕ} {e : EltTy} (X : Vec Ideal ⟨4, ![1, 1, N, W]⟩ e) {i i' j j' : Fin 1} {a a' : Fin N} {b b' : Fin W} (ha : a.val = a'.val) (hb : b.val = b'.val) :
    X (ix4 i j a b) = X (ix4 i' j' a' b') := by
  rw [Subsingleton.elim i i', Subsingleton.elim j j', Fin.ext ha, Fin.ext hb]

/-- The place of a stored row. -/
theorem row_emb {n w N W r c : ℕ} {hb : ∀ a : Fin 3, ![0, r, c] a + ![1, n, w] a ≤ ![1, N, W] a} (x : (Rect.unit (s := ⟨3, ![1, N, W]⟩) ![0, r, c] ![1, n, w] hb).shape.Idx) :
    ((Rect.unit (s := ⟨3, ![1, N, W]⟩) ![0, r, c] ![1, n, w] hb).emb x 1).val = r + (x 1).val ∧
    ((Rect.unit (s := ⟨3, ![1, N, W]⟩) ![0, r, c] ![1, n, w] hb).emb x 2).val = c + (x 2).val := by
  constructor <;> (rw [Rect.emb_apply]; simp)

/-- Which rows and lanes a store covers. -/
theorem mem_rows {n w N W r c : ℕ} (hb) {y : Shape.Idx ⟨3, ![1, N, W]⟩} (h1 : r ≤ (y 1).val ∧ (y 1).val < r + n) (h2 : c ≤ (y 2).val ∧ (y 2).val < c + w) :
    y ∈ (Rect.unit (s := ⟨3, ![1, N, W]⟩) ![0, r, c] ![1, n, w] hb).set := by
  rw [Rect.mem_set_unit]
  have h0 : (y 0).val < 1 := (y 0).isLt
  intro a
  fin_cases a
  · exact ⟨Nat.zero_le _, by show (y 0).val < 0 + 1; omega⟩
  · exact h1
  · exact h2

theorem KL_canon (y : S1x2176x512.Idx) : View.canon (KL t x1 x2 x3) y = kext x1 x2 x3 y := by
  have hp : View.PiecesOf (Val := Elt Ideal) (kext x1 x2 x3) (KL t x1 x2 x3) := by
    refine ⟨fun x => ?_, fun x => ?_, fun x => ?_, trivial⟩
    · pointwise [k0_pay5]
      have hx : (x 1).val < 64 := (x 1).isLt
      have hd : (x 2).val < 512 := (x 2).isLt
      refine (rows_load (hs0_3 t) x3 _ 0 0 (x 1) (x 2) (by omega) (by omega)).trans ?_
      refine Eq.trans ?_ (ext_next x2 x1 x3 _ _ _ (x 1) (row_emb x).1).symm
      exact at_eq _ (Nat.zero_add _) ((Nat.zero_add _).trans ((row_emb x).2.trans (Nat.zero_add _)).symm)
    · pointwise [k0_pay4]
      have hx : (x 1).val < 2048 := (x 1).isLt
      have hd : (x 2).val < 512 := (x 2).isLt
      refine (rows_load (hs0_1 t) x1 _ 0 0 (x 1) (x 2) (by omega) (by omega)).trans ?_
      refine Eq.trans ?_ (ext_mid x2 x1 x3 _ _ _ (x 1) (row_emb x).1).symm
      exact at_eq _ (Nat.zero_add _) ((Nat.zero_add _).trans ((row_emb x).2.trans (Nat.zero_add _)).symm)
    · pointwise [k0_pay3]
      have hx : (x 1).val < 64 := (x 1).isLt
      have hd : (x 2).val < 512 := (x 2).isLt
      refine (rows_load (hs0_2 t) x2 _ 0 0 (x 1) (x 2) (by omega) (by omega)).trans ?_
      refine Eq.trans ?_ (ext_prev x2 x1 x3 _ _ _ (x 1) ((row_emb x).1.trans (Nat.zero_add _))).symm
      exact at_eq _ (Nat.zero_add _) ((Nat.zero_add _).trans ((row_emb x).2.trans (Nat.zero_add _)).symm)
  refine View.canon_apply_of_pieces (Val := Elt Ideal) (kext x1 x2 x3) _ hp.mem y ?_
  have h1 : (y 1).val < 2176 := (y 1).isLt
  have h2 : (y 2).val < 512 := (y 2).isLt
  by_cases hA : (y 1).val < 64
  · exact ⟨_, .tail _ (.tail _ (.head _)), mem_rows (bnd3 (by omega) (by omega)) ⟨by omega, by omega⟩ ⟨by omega, by omega⟩⟩
  by_cases hB : (y 1).val < 2112
  · exact ⟨_, .tail _ (.head _), mem_rows (bnd3 (by omega) (by omega)) ⟨by omega, by omega⟩ ⟨by omega, by omega⟩⟩
  · exact ⟨_, .head _, mem_rows (bnd3 (by omega) (by omega)) ⟨by omega, by omega⟩ ⟨by omega, by omega⟩⟩

/-- One head's stores into the value buffer, last first: its ones, the rows after the block, the block, the rows before it. -/
def VP (h : ℕ) (hh : h < 4) : List (View.Piece (Elt Ideal) S1x2176x1024 .bf16) :=
  [⟨Rect.unit ![0, 0, 256 * h + 128] S1x2176x128.size (bnd3 (by omega) (by omega)), k0_pay10⟩,
   ⟨Rect.unit ![0, 2112, 256 * h] S1x64x128.size (bnd3 (by omega) (by omega)), k0_pay6 (View.readAt (Elt Ideal) (ms0_6 t).view (Rect.unit (s := S1x1x64x512) ![0, 0, 0, 128 * h] S1x1x64x128.size (bnd4 (by omega) (by omega))).toLoadRect ((hs0_6 t).unread x6))⟩,
   ⟨Rect.unit ![0, 64, 256 * h] S1x2048x128.size (bnd3 (by omega) (by omega)), k0_pay7 (View.readAt (Elt Ideal) (ms0_4 t).view (Rect.unit (s := S1x1x2048x512) ![0, 0, 0, 128 * h] S1x1x2048x128.size (bnd4 (by omega) (by omega))).toLoadRect ((hs0_4 t).unread x4))⟩,
   ⟨Rect.unit ![0, 0, 256 * h] S1x64x128.size (bnd3 (by omega) (by omega)), k0_pay6 (View.readAt (Elt Ideal) (ms0_5 t).view (Rect.unit (s := S1x1x64x512) ![0, 0, 0, 128 * h] S1x1x64x128.size (bnd4 (by omega) (by omega))).toLoadRect ((hs0_5 t).unread x5))⟩]

/-- The value buffer's stores, last first. -/
def VL : List (View.Piece (Elt Ideal) S1x2176x1024 .bf16) :=
  VP t x4 x5 x6 3 (by omega) ++ VP t x4 x5 x6 2 (by omega) ++ VP t x4 x5 x6 1 (by omega) ++ VP t x4 x5 x6 0 (by omega)

/-- What the value buffer holds: head `h`'s values in lanes `256 h …`, ones in the 128 lanes after them. -/
def vext : Vec Ideal S1x2176x1024 .bf16 := fun y =>
  if (y 2).val % 256 < 128 then ext x5 x4 x6 (y 1).val (y 1).isLt (⟨128 * ((y 2).val / 256) + (y 2).val % 256 % 128, by have : (y 2).val < 1024 := (y 2).isLt; omega⟩ : Fin 512)
  else 1

theorem one_bits : Ideal.ofBits .bf16 0x3F80#16 = 1 := by
  simp [Ideal.ofBits, Ideal.ieee, -EReal.coe_mul]; norm_num

theorem VP_pieces (h : ℕ) (hh : h < 4) : View.PiecesOf (Val := Elt Ideal) (vext x4 x5 x6) (VP t x4 x5 x6 h hh) := by
  refine ⟨fun x => ?_, fun x => ?_, fun x => ?_, fun x => ?_, trivial⟩
  · pointwise [k0_pay10]
    have hd : (x 2).val < 128 := (x 2).isLt
    unfold vext
    have := (row_emb (hb := bnd3 (by omega) (by omega)) x).2
    rw [if_neg (by omega)]
  · pointwise [k0_pay6]
    have hx : (x 1).val < 64 := (x 1).isLt
    have hd : (x 2).val < 128 := (x 2).isLt
    refine (rows_load (hs0_6 t) x6 _ 0 0 (x 1) (x 2) (by omega) (by omega)).trans ?_
    unfold vext
    have := (row_emb (hb := bnd3 (by omega) (by omega)) x).2
    rw [if_pos (by omega)]
    refine Eq.trans ?_ (ext_next x5 x4 x6 _ _ _ (x 1) (row_emb x).1).symm
    exact at_eq _ (Nat.zero_add _) (by simp only; omega)
  · pointwise [k0_pay7]
    have hx : (x 1).val < 2048 := (x 1).isLt
    have hd : (x 2).val < 128 := (x 2).isLt
    refine (rows_load (hs0_4 t) x4 _ 0 0 (x 1) (x 2) (by omega) (by omega)).trans ?_
    unfold vext
    have := (row_emb (hb := bnd3 (by omega) (by omega)) x).2
    rw [if_pos (by omega)]
    refine Eq.trans ?_ (ext_mid x5 x4 x6 _ _ _ (x 1) (row_emb x).1).symm
    exact at_eq _ (Nat.zero_add _) (by simp only; omega)
  · pointwise [k0_pay6]
    have hx : (x 1).val < 64 := (x 1).isLt
    have hd : (x 2).val < 128 := (x 2).isLt
    refine (rows_load (hs0_5 t) x5 _ 0 0 (x 1) (x 2) (by omega) (by omega)).trans ?_
    unfold vext
    have := (row_emb (hb := bnd3 (by omega) (by omega)) x).2
    rw [if_pos (by omega)]
    refine Eq.trans ?_ (ext_prev x5 x4 x6 _ _ _ (x 1) ((row_emb x).1.trans (Nat.zero_add _))).symm
    exact at_eq _ (Nat.zero_add _) (by simp only; omega)

theorem VP_cover (h : ℕ) (hh : h < 4) (y : S1x2176x1024.Idx) (hy : (y 2).val / 256 = h) : ∃ p ∈ VP t x4 x5 x6 h hh, y ∈ p.1.set := by
  have h1 : (y 1).val < 2176 := (y 1).isLt
  by_cases hO : 128 ≤ (y 2).val % 256
  · exact ⟨_, .head _, mem_rows (bnd3 (by omega) (by omega)) ⟨by omega, by omega⟩ ⟨by omega, by omega⟩⟩
  by_cases hA : (y 1).val < 64
  · exact ⟨_, .tail _ (.tail _ (.tail _ (.head _))), mem_rows (bnd3 (by omega) (by omega)) ⟨by omega, by omega⟩ ⟨by omega, by omega⟩⟩
  by_cases hB : (y 1).val < 2112
  · exact ⟨_, .tail _ (.tail _ (.head _)), mem_rows (bnd3 (by omega) (by omega)) ⟨by omega, by omega⟩ ⟨by omega, by omega⟩⟩
  · exact ⟨_, .tail _ (.head _), mem_rows (bnd3 (by omega) (by omega)) ⟨by omega, by omega⟩ ⟨by omega, by omega⟩⟩

theorem VL_canon (y : S1x2176x1024.Idx) : View.canon (VL t x4 x5 x6) y = vext x4 x5 x6 y := by
  have h2 : (y 2).val < 1024 := (y 2).isLt
  refine View.canon_apply_of_pieces (Val := Elt Ideal) (vext x4 x5 x6) _ ?_ y ?_
  · intro p hp
    simp only [VL, List.mem_append] at hp
    rcases hp with ((hp | hp) | hp) | hp <;> exact (VP_pieces t x4 x5 x6 _ _).mem p hp
  · have hh : (y 2).val / 256 < 4 := by omega
    obtain ⟨p, hp, hy⟩ := VP_cover t x4 x5 x6 _ hh y rfl
    have key : ∀ n (hn : n < 4), p ∈ VP t x4 x5 x6 n hn → p ∈ VL t x4 x5 x6 := fun n hn hp => by
      simp only [VL, List.mem_append]
      interval_cases n
      · exact .inr hp
      · exact .inl (.inr hp)
      · exact .inl (.inl (.inr hp))
      · exact .inl (.inl (.inl hp))
    exact ⟨p, key _ hh hp, hy⟩

/-- The keys of head `h` that tile `i` loads. -/
def kL (i h : ℕ) (hi : i < 16) (hh : h < 4) : Vec Ideal S256x128 .bf16 :=
  LoadRect.valAlong (LoadRect.numel_consLift (n := 2) (d := ![2176, 512]) (Rect.unit (s := S2176x512) ![128 * i, 128 * h] S256x128.size (bnd2 (by omega) (by omega))).toLoadRect ![1, 2176, 512] rfl (fun _ => rfl))
    (scM0_0.view.readCov (KL t x1 x2 x3) ((Rect.unit ![0, 0, 0] S1x2176x512.size inb_S1x2176x512_S1x2176x512_0_0_0).withinL
      ((Rect.unit (s := S2176x512) ![128 * i, 128 * h] S256x128.size (bnd2 (by omega) (by omega))).toLoadRect.consLift ![1, 2176, 512] rfl (fun _ => rfl)) (fun _ => rfl)))

/-- The values and ones of head `h` that tile `i` loads. -/
def vL (i h : ℕ) (hi : i < 16) (hh : h < 4) : Vec Ideal S256x256 .bf16 :=
  LoadRect.valAlong (LoadRect.numel_consLift (n := 2) (d := ![2176, 1024]) (Rect.unit (s := S2176x1024) ![128 * i, 256 * h] S256x256.size (bnd2 (by omega) (by omega))).toLoadRect ![1, 2176, 1024] rfl (fun _ => rfl))
    (scM0_1.view.readCov (VL t x4 x5 x6) ((Rect.unit ![0, 0, 0] S1x2176x1024.size inb_S1x2176x1024_S1x2176x1024_0_0_0).withinL
      ((Rect.unit (s := S2176x1024) ![128 * i, 256 * h] S256x256.size (bnd2 (by omega) (by omega))).toLoadRect.consLift ![1, 2176, 1024] rfl (fun _ => rfl)) (fun _ => rfl)))

/-- A load of rows and lanes through a buffer with a leading axis of one reads the buffer's contents at the rows and lanes shifted. -/
theorem load_at {N W n w r c : ℕ} (X : (⟨3, ![1, N, W]⟩ : Shape).Idx → EReal) (hf hb h0 hs hst)
    (hR : (Rect.unit (s := ⟨2, ![N, W]⟩) ![r, c] ![n, w] hb).toLoadRect.shape.numel = ((Rect.unit (s := ⟨3, ![1, N, W]⟩) ![0, 0, 0] ![1, N, W] hf).withinL
      ((Rect.unit (s := ⟨2, ![N, W]⟩) ![r, c] ![n, w] hb).toLoadRect.consLift (n := 2) (d := ![N, W]) ![1, N, W] h0 hs) hst).shape.numel)
    (x : (⟨2, ![n, w]⟩ : Shape).Idx) (h1 : r + (x 0).val < N) (h2 : c + (x 1).val < W) :
    LoadRect.valAlong hR (fun z => X (((Rect.unit (s := ⟨3, ![1, N, W]⟩) ![0, 0, 0] ![1, N, W] hf).withinL
      ((Rect.unit (s := ⟨2, ![N, W]⟩) ![r, c] ![n, w] hb).toLoadRect.consLift (n := 2) (d := ![N, W]) ![1, N, W] h0 hs) hst).idx z)) x
      = X (ix3 (0 : Fin 1) (⟨r + (x 0).val, h1⟩ : Fin N) (⟨c + (x 1).val, h2⟩ : Fin W)) := by
  refine congrArg X ((Rect.idx_withinL _ _ hst _).trans ?_)
  rw [show Shape.reshapeEquiv hR x = Fin.cons ⟨0, Nat.one_pos⟩ x from Shape.reshapeEquiv_cons_one (d := ![n, w]) _ x]
  funext k
  apply Fin.ext
  rw [Rect.emb_apply]
  have e := LoadRect.idx_apply ((Rect.unit (s := ⟨2, ![N, W]⟩) ![r, c] ![n, w] hb).toLoadRect.consLift (n := 2) (d := ![N, W]) ![1, N, W] h0 hs) (Fin.cons ⟨0, Nat.one_pos⟩ x) k
  refine (congrArg (fun z => (Rect.unit (s := ⟨3, ![1, N, W]⟩) ![0, 0, 0] ![1, N, W] hf).off k + (Rect.unit (s := ⟨3, ![1, N, W]⟩) ![0, 0, 0] ![1, N, W] hf).stride k * z) e).trans ?_
  fin_cases k
  · rfl
  · show 0 + 1 * (r + 1 * (x 0).val) = r + (x 0).val
    omega
  · show 0 + 1 * (c + 1 * (x 1).val) = c + (x 1).val
    omega

theorem kL_at (i h hi hh) (x : S256x128.Idx) : kL t x1 x2 x3 i h hi hh x = kext x1 x2 x3 (ix3 (0 : Fin 1) (⟨128 * i + (x 0).val, by have : (x 0).val < 256 := (x 0).isLt; omega⟩ : Fin 2176) (⟨128 * h + (x 1).val, by have : (x 1).val < 128 := (x 1).isLt; omega⟩ : Fin 512)) := by
  unfold kL
  rw [View.readCov_eq_canon']
  refine (KL_canon t x1 x2 x3 _).trans ?_
  refine load_at (N := 2176) (W := 512) (n := 256) (w := 128) (kext x1 x2 x3) _ _ _ _ _ _ x _ _

theorem vL_at (i h hi hh) (x : S256x256.Idx) : vL t x4 x5 x6 i h hi hh x = vext x4 x5 x6 (ix3 (0 : Fin 1) (⟨128 * i + (x 0).val, by have : (x 0).val < 256 := (x 0).isLt; omega⟩ : Fin 2176) (⟨256 * h + (x 1).val, by have : (x 1).val < 256 := (x 1).isLt; omega⟩ : Fin 1024)) := by
  unfold vL
  rw [View.readCov_eq_canon']
  refine (VL_canon t x4 x5 x6 _).trans ?_
  refine load_at (N := 2176) (W := 1024) (n := 256) (w := 256) (vext x4 x5 x6) _ _ _ _ _ _ x _ _

/-- The queries of head `h` that tile `i` loads. -/
def qL (i h : ℕ) (hi : i < 16) (hh : h < 4) : Vec Ideal S1x1x128x128 .bf16 :=
  View.readAt (Elt Ideal) (ms0_0 t).view (Rect.unit (s := S1x1x2048x512) ![0, 0, 128 * i, 128 * h] S1x1x128x128.size (bnd4 (by omega) (by omega))).toLoadRect ((hs0_0 t).unread x0)

/-- The scores of head `h` in tile `i`. -/
def sL (j : BitVec 32) (i h : ℕ) (hi : i < 16) (hh : h < 4) : FVec Ideal S128x256 .f32 :=
  tileS (Named.named (F := Ideal) Cert.Attn1Ideal.κ "scale2" (φ := .f32) 0x3E0293EE#32)
    (tileBias (Named.named (F := Ideal) Cert.Attn1Ideal.κ "mask" (φ := .f32) 0xF149F2CA#32) 2048#32 8192#32 j (BitVec.ofNat 32 (128 * i)))
    (qL t x0 i h hi hh) (kL t x1 x2 x3 i h hi hh)

/-- The numerators' store of head `h` in tile `i`. -/
def pO (j : BitVec 32) (i h : ℕ) (hi : i < 16) (hh : h < 4) : View.Piece (Elt Ideal) S1x1x2048x512 .f32 :=
  ⟨Rect.unit (s := S1x1x2048x512) ![0, 0, 128 * i, 128 * h] S1x1x128x128.size (bnd4 (by omega) (by omega)),
    tileO (sL t x0 x1 x2 x3 j i h hi hh) (vL t x4 x5 x6 i h hi hh)⟩

/-- The statistics' store of tile `i`. -/
def pS (j : BitVec 32) (i : ℕ) (hi : i < 16) : View.Piece (Elt Ideal) S1x1x2048x128 .f32 :=
  ⟨Rect.unit (s := S1x1x2048x128) ![0, 0, 128 * i, 0] S1x1x128x128.size (bnd4 (by omega) (by omega)),
    tileSt (Named.named (F := Ideal) Cert.Attn1Ideal.κ "ln2" (φ := .f32) 0x3F317218#32)
      (sL t x0 x1 x2 x3 j i 0 hi (by omega)) (sL t x0 x1 x2 x3 j i 1 hi (by omega)) (sL t x0 x1 x2 x3 j i 2 hi (by omega)) (sL t x0 x1 x2 x3 j i 3 hi (by omega))
      (vL t x4 x5 x6 i 0 hi (by omega)) (vL t x4 x5 x6 i 1 hi (by omega)) (vL t x4 x5 x6 i 2 hi (by omega)) (vL t x4 x5 x6 i 3 hi (by omega))⟩

/-- Counting down. -/
def down {α : Type} : (n : ℕ) → ((i : ℕ) → i < n → α) → List α
  | 0, _ => []
  | n + 1, f => f n (Nat.lt_succ_self n) :: down n fun i hi => f i (Nat.lt_succ_of_lt hi)

theorem mem_down {α : Type} : ∀ {n : ℕ} {f : (i : ℕ) → i < n → α} {p : α}, p ∈ down n f → ∃ i, ∃ hi : i < n, p = f i hi
  | 0, _, _, h => absurd h List.not_mem_nil
  | n + 1, f, p, h => by
    rcases List.mem_cons.1 h with h | h
    · exact ⟨n, Nat.lt_succ_self n, h⟩
    · obtain ⟨i, hi, e⟩ := mem_down h
      exact ⟨i, _, e⟩

/-- The kernel's stores of numerators are the tiles', head by head. -/
def OL (j : BitVec 32) : List (View.Piece (Elt Ideal) S1x1x2048x512 .f32) :=
  down 64 fun n hn => pO t x0 x1 x4 x2 x3 x5 x6 j (n / 4) (n % 4) (by omega) (by omega)

def SL (j : BitVec 32) : List (View.Piece (Elt Ideal) S1x1x2048x128 .f32) :=
  down 16 fun i hi => pS t x0 x1 x4 x2 x3 x5 x6 j i hi

set_option maxHeartbeats 4000000
theorem run_O (c : Dev nD) : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) x0 x1 x2 x3 x4 x5 x6).1 = OL t x0 x1 x4 x2 x3 x5 x6 (BitVec.ofNat 32 (grid0.coords t 2).val) := rfl

theorem run_S (c : Dev nD) : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) x0 x1 x2 x3 x4 x5 x6).2.1 = SL t x0 x1 x4 x2 x3 x5 x6 (BitVec.ofNat 32 (grid0.coords t 2).val) := rfl

end Cert.AttnBlock
-- ==== Proof.AttnPoint.lean ====
/- What one grid point of the attention kernel leaves in its two output blocks, from the rows its input blocks hold. -/
module

public import proofs.«01_k».proof.Proof.AttnBlock

@[expose] public section
set_option maxRecDepth 16384
noncomputable section
namespace Cert.AttnPoint
open Cert.Attn1Ideal Cert.Attn1Ideal.Gen Idealize.ShloMosaic Idealize.ShloMosaic.TcCoe Idealize.SL.Sem Cert.AttnMath Cert.AttnWords Cert.AttnTile Cert.AttnBlock

/-- The lane of head `h`'s entry `d`. -/
def lane (h : Fin 4) (d : Fin 128) : Fin 512 := ⟨128 * h.val + d.val, by omega⟩

section
variable {L : ℕ} (Q K V : Fin L → Fin 512 → EReal)

/-- The banded scores of query `t` in head `h`. -/
def rowS (t : Fin L) (h : Fin 4) : Fin L → EReal := bandScore t.val (fun d => Q t (lane h d)) (fun u d => K u (lane h d))

/-- The unnormalised output of query `t` in head `h`, entry `c`. -/
def outN (t : Fin L) (h : Fin 4) (c : Fin 128) : EReal := rowNum (rowS Q K t h) fun u => V u (lane h c)

/-- The statistics of query `t`, lane by lane: four row maxima, four denominators, ones. -/
def outS (t : Fin L) (l : ℕ) : EReal :=
  if h : l < 4 then rowMax (rowS Q K t ⟨l, h⟩) else if h' : l < 8 then rowSum (rowS Q K t ⟨l - 4, by omega⟩) else 1
end

variable (t : Fin cfg0.N) (x0 x1 x4 : Vec Ideal S1x1x2048x512 .bf16) (x2 x3 x5 x6 : Vec Ideal S1x1x64x512 .bf16)
variable (Q K V : Fin 8192 → Fin 512 → EReal) (J : ℕ) (jw : BitVec 32)

/-- The blocks of a grid point whose queries are rows `J …` hold those rows, and the keys and values from 64 rows before to 64 rows after. -/
structure Rows : Prop where
  le : J + 2048 ≤ 8192
  jw : ∀ i, i < 16 → (Scalar.addi (Scalar.muli jw 2048#32) (BitVec.ofNat 32 (128 * i))).toInt = ((J + 128 * i : ℕ) : ℤ)
  q : ∀ (r : Fin 2048) (c : Fin 512) (u : Fin 8192), u.val = J + r.val → x0 (ix4 (0 : Fin 1) (0 : Fin 1) r c) = Q u c
  k : ∀ (r : ℕ) (hr : r < 2176) (c : Fin 512) (u : Fin 8192), u.val + 64 = J + r → ext x2 x1 x3 r hr c = K u c
  v : ∀ (r : ℕ) (hr : r < 2176) (c : Fin 512) (u : Fin 8192), u.val + 64 = J + r → ext x5 x4 x6 r hr c = V u c

variable {t x0 x1 x4 x2 x3 x5 x6 Q K V J jw}

/-- The scores of a tile's row are a scaled window of its query's banded scores. -/
theorem row_win (H : Rows x0 x1 x4 x2 x3 x5 x6 Q K V J jw) (i h : ℕ) (hi : i < 16) (hh : h < 4) (a : Fin 128) (u : Fin 8192) (hu : u.val = J + 128 * i + a.val) :
    ∃ f : Fin 256 → EReal, Win (J + 128 * i) f (rowS Q K u ⟨h, hh⟩) ∧
      (fun j : Fin 256 => sL t x0 x1 x2 x3 jw i h hi hh (ix2 a j)) = fun j => f j * (lam : EReal) := by
  have hle := H.le
  refine tile_row (L := 8192) (J + 128 * i) u.val a hu u.isLt _ _ _ _ _ (fun j => ?_) (fun d => ?_) (fun j w hw d => ?_)
  · exact tileBias_at _ _ _ _ _ rfl (J + 128 * i) 8192 (H.jw i hi) (by decide) (by omega) (by omega) _
  · refine (rows_load (hs0_0 t) x0 _ 0 0 a d (by omega) (by omega)).trans ?_
    exact H.q _ _ u (by simp only; omega)
  · rw [kL_at]
    exact H.k _ _ _ w (by show _ = J + (128 * i + j.val); omega)

/-- The values a tile loads are the rows' values, and ones after them. -/
theorem vL_val (H : Rows x0 x1 x4 x2 x3 x5 x6 Q K V J jw) (i h : ℕ) (hi : i < 16) (hh : h < 4) (c : Fin 128) (j : Fin 256) (w : Fin 8192) (hw : w.val + 64 = J + 128 * i + j.val) :
    vL t x4 x5 x6 i h hi hh (ix2 j (⟨c.val, by omega⟩ : Fin 256)) = V w (lane ⟨h, hh⟩ c) := by
  rw [vL_at]
  unfold vext
  rw [if_pos (by show (256 * h + c.val) % 256 < 128; omega)]
  refine (H.v _ _ _ w (by show _ = J + (128 * i + j.val); omega)).trans ?_
  congr 1
  apply Fin.ext
  show 128 * ((256 * h + c.val) / 256) + (256 * h + c.val) % 256 % 128 = 128 * h + c.val
  omega

theorem vL_one (i h : ℕ) (hi : i < 16) (hh : h < 4) (c : Fin 128) (j : Fin 256) :
    vL t x4 x5 x6 i h hi hh (ix2 j (⟨128 + c.val, by omega⟩ : Fin 256)) = 1 := by
  rw [vL_at]
  unfold vext
  rw [if_neg (by show ¬ (256 * h + (128 + c.val)) % 256 < 128; omega)]

/-- The place of a stored tile. -/
theorem tile_emb {n w N W r c : ℕ} {hb : ∀ a : Fin 4, ![0, 0, r, c] a + ![1, 1, n, w] a ≤ ![1, 1, N, W] a} (x : (Rect.unit (s := ⟨4, ![1, 1, N, W]⟩) ![0, 0, r, c] ![1, 1, n, w] hb).shape.Idx) :
    ((Rect.unit (s := ⟨4, ![1, 1, N, W]⟩) ![0, 0, r, c] ![1, 1, n, w] hb).emb x 2).val = r + (x 2).val ∧
    ((Rect.unit (s := ⟨4, ![1, 1, N, W]⟩) ![0, 0, r, c] ![1, 1, n, w] hb).emb x 3).val = c + (x 3).val := by
  constructor <;> (rw [Rect.emb_apply]; simp)

theorem eta4 {a b c d : ℕ} (x : (⟨4, ![a, b, c, d]⟩ : Shape).Idx) : x = ix4 (x 0) (x 1) (x 2) (x 3) := by
  funext k; fin_cases k <;> rfl

/-- A tile's numerators are its queries' unnormalised outputs. -/
theorem tileO_val (H : Rows x0 x1 x4 x2 x3 x5 x6 Q K V J jw) (i h : ℕ) (hi : i < 16) (hh : h < 4) (p q : Fin 1) (a c : Fin 128) (u : Fin 8192) (hu : u.val = J + 128 * i + a.val) :
    tileO (sL t x0 x1 x2 x3 jw i h hi hh) (vL t x4 x5 x6 i h hi hh) (ix4 p q a c) = outN Q K V u ⟨h, hh⟩ c := by
  obtain ⟨f, hw, hf⟩ := row_win (t := t) H i h hi hh a u hu
  refine (tileO_at _ _ _).trans ?_
  show ∑ j : Fin 256, Ideal.exp2 ((fun j : Fin 256 => sL t x0 x1 x2 x3 jw i h hi hh (ix2 a j)) j - rowMax fun j : Fin 256 => sL t x0 x1 x2 x3 jw i h hi hh (ix2 a j)) * vL t x4 x5 x6 i h hi hh (ix2 j (⟨c.val, by omega⟩ : Fin 256)) = _
  rw [hf]
  exact hw.num_scaled _ (fun w => V w (lane ⟨h, hh⟩ c)) fun j w hj => vL_val H _ _ _ _ c j w hj

theorem tileL_val (H : Rows x0 x1 x4 x2 x3 x5 x6 Q K V J jw) (i h : ℕ) (hi : i < 16) (hh : h < 4) (a c : Fin 128) (u : Fin 8192) (hu : u.val = J + 128 * i + a.val) :
    tileL (sL t x0 x1 x2 x3 jw i h hi hh) (vL t x4 x5 x6 i h hi hh) (ix2 a c) = rowSum (rowS Q K u ⟨h, hh⟩) := by
  obtain ⟨f, hw, hf⟩ := row_win (t := t) H i h hi hh a u hu
  refine (tileL_at _ _ _).trans ?_
  show ∑ j : Fin 256, Ideal.exp2 ((fun j : Fin 256 => sL t x0 x1 x2 x3 jw i h hi hh (ix2 a j)) j - rowMax fun j : Fin 256 => sL t x0 x1 x2 x3 jw i h hi hh (ix2 a j)) * vL t x4 x5 x6 i h hi hh (ix2 j (⟨128 + c.val, by omega⟩ : Fin 256)) = _
  rw [hf]
  refine (hw.num_scaled _ (fun _ => 1) fun j w hj => vL_one _ _ _ _ c j).trans ?_
  simp only [rowNum, rowSum, mul_one]

theorem tileM_val (H : Rows x0 x1 x4 x2 x3 x5 x6 Q K V J jw) (i h : ℕ) (hi : i < 16) (hh : h < 4) (a : Fin 128) (u : Fin 8192) (hu : u.val = J + 128 * i + a.val) :
    (rowMax fun j : Fin 256 => sL t x0 x1 x2 x3 jw i h hi hh (ix2 a j)) * ((Real.log 2 : ℝ) : EReal) = rowMax (rowS Q K u ⟨h, hh⟩) := by
  obtain ⟨f, hw, hf⟩ := row_win (t := t) H i h hi hh a u hu
  rw [hf, hw.max_scaled]

theorem one_bits32 : Ideal.ofBits .f32 0x3F800000#32 = 1 := by
  simp [Ideal.ofBits, Ideal.ieee, -EReal.coe_mul]; norm_num

theorem tileSt_at (ln s₀ s₁ s₂ s₃ v₀ v₁ v₂ v₃ i) : tileSt ln s₀ s₁ s₂ s₃ v₀ v₁ v₂ v₃ i =
    tileStep ln 3#32 7#32 s₃ v₃ (tileStep ln 2#32 6#32 s₂ v₂ (tileStep ln 1#32 5#32 s₁ v₁ (tileStep ln 0#32 4#32 s₀ v₀
    (broadcast S128x128 (Scalar.ofBits .f32 0x3F800000#32 : Ideal .f32))))) (ix2 (i 2) (i 3)) := by
  pointwise [tileSt]

/-- One head's step of the statistics, at an entry. -/
theorem step_val (H : Rows x0 x1 x4 x2 x3 x5 x6 Q K V J jw) (i h : ℕ) (hi : i < 16) (hh : h < 4) (A B : BitVec 32) (acc) (a c : Fin 128) (u : Fin 8192) (hu : u.val = J + 128 * i + a.val) :
    tileStep (Named.named (F := Ideal) Cert.Attn1Ideal.κ "ln2" (φ := .f32) 0x3F317218#32) A B (sL t x0 x1 x2 x3 jw i h hi hh) (vL t x4 x5 x6 i h hi hh) acc (ix2 a c)
      = if c.val = A.toNat then rowMax (rowS Q K u ⟨h, hh⟩) else if c.val = B.toNat then rowSum (rowS Q K u ⟨h, hh⟩) else acc (ix2 a c) := by
  refine (tileStep_at _ _ _ _ _ _ _).trans ?_
  show (if c.val = _ then (rowMax fun j : Fin 256 => sL t x0 x1 x2 x3 jw i h hi hh (ix2 a j)) * ((Real.log 2 : ℝ) : EReal) else if c.val = _ then tileL _ _ (ix2 a c) else _) = _
  rw [tileM_val H i h hi hh a u hu, tileL_val H i h hi hh a c u hu]

/-- A statistics tile holds its queries' statistics. -/
theorem tileSt_val (H : Rows x0 x1 x4 x2 x3 x5 x6 Q K V J jw) (i : ℕ) (hi : i < 16) (x : S1x1x128x128.Idx) (u : Fin 8192) (hu : u.val = J + 128 * i + (x 2).val) :
    (pS t x0 x1 x4 x2 x3 x5 x6 jw i hi).2 x = outS Q K u (x 3).val := by
  refine (tileSt_at _ _ _ _ _ _ _ _ _ x).trans ?_
  rw [step_val H i 3 hi _ 3#32 7#32 _ (x 2) (x 3) u hu, step_val H i 2 hi _ 2#32 6#32 _ (x 2) (x 3) u hu, step_val H i 1 hi _ 1#32 5#32 _ (x 2) (x 3) u hu, step_val H i 0 hi _ 0#32 4#32 _ (x 2) (x 3) u hu]
  show (if (x 3).val = 3 then _ else if (x 3).val = 7 then _ else if (x 3).val = 2 then _ else if (x 3).val = 6 then _ else if (x 3).val = 1 then _ else if (x 3).val = 5 then _ else if (x 3).val = 0 then _ else if (x 3).val = 4 then _ else Ideal.ofBits .f32 0x3F800000#32) = _
  rw [one_bits32]
  split_ifs with h h h h h h h h <;> first | (rw [h]; rfl) | skip
  unfold outS
  rw [dif_neg (by omega), dif_neg (by omega)]

theorem numerators (H : Rows x0 x1 x4 x2 x3 x5 x6 Q K V J jw) (y : S1x1x2048x512.Idx) (hy : ∃ p ∈ OL t x0 x1 x4 x2 x3 x5 x6 jw, y ∈ p.1.set)
    (u : Fin 8192) (h : Fin 4) (c : Fin 128) (hu : u.val = J + (y 2).val) (hc : (y 3).val = 128 * h.val + c.val) :
    View.canon (OL t x0 x1 x4 x2 x3 x5 x6 jw) y = outN Q K V u h c := by
  have hle := H.le
  let G : Vec Ideal S1x1x2048x512 .f32 := fun y => outN Q K V (⟨J + (y 2).val, by have : (y 2).val < 2048 := (y 2).isLt; omega⟩ : Fin 8192)
    ⟨(y 3).val / 128, by have : (y 3).val < 512 := (y 3).isLt; omega⟩ ⟨(y 3).val % 128, by omega⟩
  refine (View.canon_apply_of_pieces (Val := Elt Ideal) G _ (fun p hp x => ?_) y hy).trans ?_
  · obtain ⟨n, hn, rfl⟩ := mem_down hp
    have hx2 : (x 2).val < 128 := (x 2).isLt
    have hx3 : (x 3).val < 128 := (x 3).isLt
    obtain ⟨e2, e3⟩ := tile_emb (hb := bnd4 (by omega) (by omega)) x
    refine ((congrArg (pO t x0 x1 x4 x2 x3 x5 x6 jw (n / 4) (n % 4) (by omega) (by omega)).2 (eta4 x)).trans
      (tileO_val H (n / 4) (n % 4) (by omega) (by omega) (x 0) (x 1) (x 2) (x 3) (⟨J + 128 * (n / 4) + (x 2).val, by omega⟩ : Fin 8192) rfl)).trans ?_
    show outN Q K V _ _ _ = outN Q K V _ _ _
    congr 1 <;> apply Fin.ext
    · show J + 128 * (n / 4) + (x 2).val = J + _
      exact (Nat.add_assoc _ _ _).trans (congrArg (J + ·) e2.symm)
    · refine Eq.trans ?_ (congrArg (· / 128) e3.symm)
      show n % 4 = _ / 128
      omega
    · refine Eq.trans ?_ (congrArg (· % 128) e3.symm)
      show (x 3).val = _ % 128
      omega
  · show outN Q K V _ _ _ = _
    congr 1 <;> apply Fin.ext
    · exact hu.symm
    · show (y 3).val / 128 = h.val; omega
    · show (y 3).val % 128 = c.val; omega

theorem statistics (H : Rows x0 x1 x4 x2 x3 x5 x6 Q K V J jw) (y : S1x1x2048x128.Idx) (hy : ∃ p ∈ SL t x0 x1 x4 x2 x3 x5 x6 jw, y ∈ p.1.set)
    (u : Fin 8192) (hu : u.val = J + (y 2).val) :
    View.canon (SL t x0 x1 x4 x2 x3 x5 x6 jw) y = outS Q K u (y 3).val := by
  have hle := H.le
  let G : Vec Ideal S1x1x2048x128 .f32 := fun y => outS Q K (⟨J + (y 2).val, by have : (y 2).val < 2048 := (y 2).isLt; omega⟩ : Fin 8192) (y 3).val
  refine (View.canon_apply_of_pieces (Val := Elt Ideal) G _ (fun p hp x => ?_) y hy).trans ?_
  · obtain ⟨i, hi, rfl⟩ := mem_down hp
    have hx2 : (x 2).val < 128 := (x 2).isLt
    obtain ⟨e2, e3⟩ := tile_emb (hb := bnd4 (by omega) (by omega)) x
    refine (tileSt_val H i hi x (⟨J + 128 * i + (x 2).val, by omega⟩ : Fin 8192) rfl).trans ?_
    show outS Q K _ _ = outS Q K _ _
    congr 1
    · apply Fin.ext
      exact (Nat.add_assoc _ _ _).trans (congrArg (J + ·) e2.symm)
    · exact ((Nat.zero_add _).symm.trans e3.symm)
  · show outS Q K _ _ = _
    congr 1; apply Fin.ext; exact hu.symm

end Cert.AttnPoint
-- ==== Proof.AttnKernel.lean ====
/- The attention kernel's two results, every entry, over its query, key and value arrays. -/
module

public import proofs.«01_k».proof.Proof.AttnPoint

@[expose] public section
set_option maxRecDepth 16384
noncomputable section
namespace Cert.AttnKernel
open Cert.Attn1Ideal Cert.Attn1Ideal.Gen Idealize.ShloMosaic Idealize.ShloMosaic.TcCoe Idealize.SL.Sem Cert.AttnMath Cert.AttnWords Cert.AttnTile Cert.AttnBlock Cert.AttnPoint

/-- One batch of an array of heads as rows of 512 lanes. -/
def rowsOf (X : Vec Ideal S8x8192x4x128 .f32) (b : Fin 8) (u : Fin 8192) (l : Fin 512) : EReal :=
  X (ix4 b u (⟨l.val / 128, by omega⟩ : Fin 4) (⟨l.val % 128, by omega⟩ : Fin 128))

variable (m : (ℓ : Loc nD τ sig) → Buf (Elt Ideal) ℓ) (c : Dev nD)
abbrev qA : Vec Ideal S8x8192x4x128 .f32 := m ((c : Thread nD τ).loc main_arg0)
abbrev kA : Vec Ideal S8x8192x4x128 .f32 := m ((c : Thread nD τ).loc main_arg1)
abbrev vA : Vec Ideal S8x8192x4x128 .f32 := m ((c : Thread nD τ).loc main_arg2)

/-- The array the kernel reads: queries, keys and values side by side. -/
theorem entry : V m c main_v4 = (truncf .bf16 (concatenate S8x1x8192x1536 3 [⟨S8x1x8192x512, shapeCast S8x1x8192x512 (qA m c) shapeCasts_S8x8192x4x128_S8x1x8192x512⟩, ⟨S8x1x8192x512, shapeCast S8x1x8192x512 (kA m c) shapeCasts_S8x8192x4x128_S8x1x8192x512⟩, ⟨S8x1x8192x512, shapeCast S8x1x8192x512 (vA m c) shapeCasts_S8x8192x4x128_S8x1x8192x512⟩] concatenates_S8x1x8192x512_S8x1x8192x512_S8x1x8192x512_S8x1x8192x1536_d3 : FVec Ideal S8x1x8192x1536 .f32) bitsLt_bf16_f32 : FVec Ideal S8x1x8192x1536 .bf16) := rfl

theorem entry_at (i : S8x1x8192x1536.Idx) : V m c main_v4 i = (if h : (i 3).val < 512 then rowsOf (qA m c) (i 0) (i 2) ⟨(i 3).val, h⟩
    else if h : (i 3).val - 512 < 512 then rowsOf (kA m c) (i 0) (i 2) ⟨(i 3).val - 512, h⟩
      else rowsOf (vA m c) (i 0) (i 2) ⟨(i 3).val - 512 - 512, by have : (i 3).val < 1536 := (i 3).isLt; omega⟩ : EReal) := by
  rw [entry]
  pointwise
  rfl

/-- The windows' blocks, by grid point: the batch is `t / 4`, the stretch of queries `t % 4`. -/
theorem idx : ∀ t : Fin cfg0.N, win0_0.index t = ![t.val / 4, 0, t.val % 4, 0] ∧ win0_1.index t = ![t.val / 4, 0, t.val % 4, 1] ∧
    win0_2.index t = ![t.val / 4, 0, 32 * (t.val % 4) - 1, 1] ∧ win0_3.index t = ![t.val / 4, 0, min (32 * (t.val % 4) + 32) 127, 1] ∧
    win0_4.index t = ![t.val / 4, 0, t.val % 4, 2] ∧ win0_5.index t = ![t.val / 4, 0, 32 * (t.val % 4) - 1, 2] ∧ win0_6.index t = ![t.val / 4, 0, min (32 * (t.val % 4) + 32) 127, 2] ∧
    win0_7.index t = ![t.val / 4, 0, t.val % 4, 0] ∧ win0_8.index t = ![t.val / 4, 0, t.val % 4, 0] ∧ (grid0.coords t 2).val = t.val % 4 :=
  (by decide +kernel : ∀ t : Fin grid0.N, _)

section
variable (b : Fin 8) (u : Fin 8192) (l : Fin 512)

/-- The first 512 lanes are the queries … -/
theorem entry_q : V m c main_v4 (ix4 b (0 : Fin 1) u (⟨l.val, by omega⟩ : Fin 1536)) = rowsOf (qA m c) b u l :=
  (entry_at m c _).trans (dif_pos l.isLt)

/-- … the next 512 the keys … -/
theorem entry_k : V m c main_v4 (ix4 b (0 : Fin 1) u (⟨512 + l.val, by omega⟩ : Fin 1536)) = rowsOf (kA m c) b u l := by
  refine (entry_at m c _).trans ((dif_neg (show ¬ 512 + l.val < 512 by omega)).trans ((dif_pos (show 512 + l.val - 512 < 512 by omega)).trans ?_))
  congr 1; apply Fin.ext; show 512 + l.val - 512 = l.val; omega

/-- … and the last 512 the values. -/
theorem entry_v : V m c main_v4 (ix4 b (0 : Fin 1) u (⟨1024 + l.val, by omega⟩ : Fin 1536)) = rowsOf (vA m c) b u l := by
  refine (entry_at m c _).trans ((dif_neg (show ¬ 1024 + l.val < 512 by omega)).trans ((dif_neg (show ¬ 1024 + l.val - 512 < 512 by omega)).trans ?_))
  congr 1; apply Fin.ext; show 1024 + l.val - 512 - 512 = l.val; omega
end

section
variable (t : Fin cfg0.N) (b : Fin 8) (hb : b.val = t.val / 4)
include hb

theorem blk0 (r : Fin 2048) (l : Fin 512) (u : Fin 8192) (hu : u.val = 2048 * (t.val % 4) + r.val) : iblk m c 0 t (ix4 (0 : Fin 1) (0 : Fin 1) r l) = rowsOf (qA m c) b u l :=
  Eq.trans (b := V m c main_v4 (ix4 b (0 : Fin 1) u (⟨l.val, by omega⟩ : Fin 1536))) (by blk_simp [iblk]; blk_ext [idx t]) (entry_q m c b u l)

theorem blk1 (r : Fin 2048) (l : Fin 512) (u : Fin 8192) (hu : u.val = 2048 * (t.val % 4) + r.val) : iblk m c 1 t (ix4 (0 : Fin 1) (0 : Fin 1) r l) = rowsOf (kA m c) b u l :=
  Eq.trans (b := V m c main_v4 (ix4 b (0 : Fin 1) u (⟨512 + l.val, by omega⟩ : Fin 1536))) (by blk_simp [iblk]; blk_ext [idx t]) (entry_k m c b u l)

theorem blk2 (r : Fin 64) (l : Fin 512) (u : Fin 8192) (hu : u.val = 64 * (32 * (t.val % 4) - 1) + r.val) : iblk m c 2 t (ix4 (0 : Fin 1) (0 : Fin 1) r l) = rowsOf (kA m c) b u l :=
  Eq.trans (b := V m c main_v4 (ix4 b (0 : Fin 1) u (⟨512 + l.val, by omega⟩ : Fin 1536))) (by blk_simp [iblk]; blk_ext [idx t]) (entry_k m c b u l)

theorem blk3 (r : Fin 64) (l : Fin 512) (u : Fin 8192) (hu : u.val = 64 * min (32 * (t.val % 4) + 32) 127 + r.val) : iblk m c 3 t (ix4 (0 : Fin 1) (0 : Fin 1) r l) = rowsOf (kA m c) b u l :=
  Eq.trans (b := V m c main_v4 (ix4 b (0 : Fin 1) u (⟨512 + l.val, by omega⟩ : Fin 1536))) (by blk_simp [iblk]; blk_ext [idx t]) (entry_k m c b u l)

theorem blk4 (r : Fin 2048) (l : Fin 512) (u : Fin 8192) (hu : u.val = 2048 * (t.val % 4) + r.val) : iblk m c 4 t (ix4 (0 : Fin 1) (0 : Fin 1) r l) = rowsOf (vA m c) b u l :=
  Eq.trans (b := V m c main_v4 (ix4 b (0 : Fin 1) u (⟨1024 + l.val, by omega⟩ : Fin 1536))) (by blk_simp [iblk]; blk_ext [idx t]) (entry_v m c b u l)

theorem blk5 (r : Fin 64) (l : Fin 512) (u : Fin 8192) (hu : u.val = 64 * (32 * (t.val % 4) - 1) + r.val) : iblk m c 5 t (ix4 (0 : Fin 1) (0 : Fin 1) r l) = rowsOf (vA m c) b u l :=
  Eq.trans (b := V m c main_v4 (ix4 b (0 : Fin 1) u (⟨1024 + l.val, by omega⟩ : Fin 1536))) (by blk_simp [iblk]; blk_ext [idx t]) (entry_v m c b u l)

theorem blk6 (r : Fin 64) (l : Fin 512) (u : Fin 8192) (hu : u.val = 64 * min (32 * (t.val % 4) + 32) 127 + r.val) : iblk m c 6 t (ix4 (0 : Fin 1) (0 : Fin 1) r l) = rowsOf (vA m c) b u l :=
  Eq.trans (b := V m c main_v4 (ix4 b (0 : Fin 1) u (⟨1024 + l.val, by omega⟩ : Fin 1536))) (by blk_simp [iblk]; blk_ext [idx t]) (entry_v m c b u l)

/-- The blocks of a grid point hold the rows of its batch, from `2048 (t % 4)` on. -/
theorem rows : Rows (iblk m c 0 t) (iblk m c 1 t) (iblk m c 4 t) (iblk m c 2 t) (iblk m c 3 t) (iblk m c 5 t) (iblk m c 6 t)
    (rowsOf (qA m c) b) (rowsOf (kA m c) b) (rowsOf (vA m c) b) (2048 * (t.val % 4)) (BitVec.ofNat 32 (grid0.coords t 2).val) where
  le := by omega
  jw i hi := by
    rw [(idx t).2.2.2.2.2.2.2.2.2]
    show (BitVec.ofNat 32 (t.val % 4) * BitVec.ofNat 32 2048 + BitVec.ofNat 32 (128 * i)).toInt = _
    rw [← BitVec.ofNat_mul, ← BitVec.ofNat_add, Nat.mul_comm, BitVec.toInt_eq_toNat_of_lt (by rw [BitVec.toNat_ofNat]; omega), BitVec.toNat_ofNat, Nat.mod_eq_of_lt (by omega)]
  q r l u hu := blk0 m c t b hb r l u hu
  k r hr l u hu := by
    by_cases h : r < 64
    · exact (ext_prev _ _ _ _ _ _ ⟨r, h⟩ rfl).trans (blk2 m c t b hb _ l u (by simp only; omega))
    · by_cases h' : r < 2112
      · exact (ext_mid _ _ _ _ _ _ ⟨r - 64, by omega⟩ (by simp only; omega)).trans (blk1 m c t b hb _ l u (by simp only; omega))
      · exact (ext_next _ _ _ _ _ _ ⟨r - 2112, by omega⟩ (by simp only; omega)).trans (blk3 m c t b hb _ l u (by simp only; omega))
  v r hr l u hu := by
    by_cases h : r < 64
    · exact (ext_prev _ _ _ _ _ _ ⟨r, h⟩ rfl).trans (blk5 m c t b hb _ l u (by simp only; omega))
    · by_cases h' : r < 2112
      · exact (ext_mid _ _ _ _ _ _ ⟨r - 64, by omega⟩ (by simp only; omega)).trans (blk4 m c t b hb _ l u (by simp only; omega))
      · exact (ext_next _ _ _ _ _ _ ⟨r - 2112, by omega⟩ (by simp only; omega)).trans (blk6 m c t b hb _ l u (by simp only; omega))
end

/-- The numerators over arrays of queries, keys and values. -/
def numOf (Q K W : Vec Ideal S8x8192x4x128 .f32) : Vec Ideal S8x1x8192x512 .f32 := fun y =>
  outN (rowsOf Q (y 0)) (rowsOf K (y 0)) (rowsOf W (y 0)) (y 2) ⟨(y 3).val / 128, by have : (y 3).val < 512 := (y 3).isLt; omega⟩ ⟨(y 3).val % 128, by omega⟩

/-- The statistics over arrays of queries and keys. -/
def stOf (Q K : Vec Ideal S8x8192x4x128 .f32) : Vec Ideal S8x1x8192x128 .f32 := fun y =>
  outS (rowsOf Q (y 0)) (rowsOf K (y 0)) (y 2) (y 3).val

/-- The array of numerators after the run. -/
theorem final7 : (dats m 0 c).arrAt 7 cfg0.N = numOf (qA m c) (kA m c) (vA m c) := by
  refine (dats m 0 c).arrAt_eq_of_covers 7 _ (by decide +kernel) fun t _ y => ?_
  blk_simp
  rw [after0_7]
  simp only [outsAt0]
  unfold out0_A_7
  have hcov := cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) y
  rw [run_O] at hcov ⊢
  have h32 : t.val < 32 := t.isLt
  refine (View.read_writes_junk_apply_eq_canon _ _ _).trans ?_
  have hemb : ((View.whole main_v5_0).slice (win0_7.rect t)).emb y = ix4 (⟨t.val / 4, by omega⟩ : Fin 8) (0 : Fin 1) (⟨2048 * (t.val % 4) + (y 2).val, by have : (y 2).val < 2048 := (y 2).isLt; omega⟩ : Fin 8192) (⟨(y 3).val, (y 3).isLt⟩ : Fin 512) := by blk_ext [idx t]
  rw [hemb]
  have h3 : (y 3).val < 512 := (y 3).isLt
  exact numerators (rows m c t ⟨t.val / 4, by omega⟩ rfl) y hcov _ ⟨(y 3).val / 128, by omega⟩ ⟨(y 3).val % 128, by omega⟩ rfl (by simp only; omega)

/-- The array of statistics after the run. -/
theorem final8 : (dats m 0 c).arrAt 8 cfg0.N = stOf (qA m c) (kA m c) := by
  refine (dats m 0 c).arrAt_eq_of_covers 8 _ (by decide +kernel) fun t _ y => ?_
  blk_simp
  rw [after0_8]
  simp only [outsAt0]
  unfold out0_A_8
  have hcov := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) y
  rw [run_S] at hcov ⊢
  have h32 : t.val < 32 := t.isLt
  refine (View.read_writes_junk_apply_eq_canon _ _ _).trans ?_
  have hemb : ((View.whole main_v5_1).slice (win0_8.rect t)).emb y = ix4 (⟨t.val / 4, by omega⟩ : Fin 8) (0 : Fin 1) (⟨2048 * (t.val % 4) + (y 2).val, by have : (y 2).val < 2048 := (y 2).isLt; omega⟩ : Fin 8192) (⟨(y 3).val, (y 3).isLt⟩ : Fin 128) := by blk_ext [idx t]
  rw [hemb]
  exact statistics (rows m c t ⟨t.val / 4, by omega⟩ rfl) y hcov _ rfl

end Cert.AttnKernel
-- ==== Proof.AttnRef.lean ====
/- The reference's two results, every entry, over its query, key and value arrays. -/
module

public import proofs.«01_k».proof.Proof.AttnKernel
public import proofs.«01_k».proof.Proof.Gen.RefAttn1Ideal.Run

@[expose] public section
set_option maxRecDepth 16384
noncomputable section
namespace Cert.AttnRef
open Cert.RefAttn1Ideal Cert.RefAttn1Ideal.Gen Idealize.ShloMosaic Idealize.ShloMosaic.TcCoe Idealize.SL.Sem Idealize.ShloMosaic.StableHlo Cert.AttnMath Cert.AttnWords Cert.AttnPoint Cert.AttnKernel

section
variable {n0 n1 n2 n3 n4 n5 : ℕ} (h : (⟨6, ![n0, n1, n2, n3, n4, n5]⟩ : Shape).ReducesTo [5] ⟨5, ![n0, n1, n2, n3, n4]⟩)
variable (a : Fin n0) (b : Fin n1) (c : Fin n2) (d : Fin n3) (e : Fin n4)

/-- The entries that a reduction along the last of six axes joins. -/
theorem fiber (i : (⟨6, ![n0, n1, n2, n3, n4, n5]⟩ : Shape).Idx) : h.drop i = ix5 a b c d e ↔ ∃ k : Fin n5, ix6 a b c d e k = i := by
  constructor
  · intro w
    refine ⟨i 5, ?_⟩
    funext x; apply Fin.ext
    match x with
    | ⟨0, _⟩ => exact (congrArg Fin.val (congrFun w 0)).symm
    | ⟨1, _⟩ => exact (congrArg Fin.val (congrFun w 1)).symm
    | ⟨2, _⟩ => exact (congrArg Fin.val (congrFun w 2)).symm
    | ⟨3, _⟩ => exact (congrArg Fin.val (congrFun w 3)).symm
    | ⟨4, _⟩ => exact (congrArg Fin.val (congrFun w 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem fold_last (v : (⟨6, ![n0, n1, n2, n3, n4, n5]⟩ : Shape).Idx → EReal) :
    (Finset.univ.filter fun i => h.drop i = ix5 a b c d e).fold max ⊥ v = rowMax fun k : Fin n5 => v (ix6 a b c d e k) :=
  Finset.fold_filter_eq_fold_of_fiber max _ (fun k : Fin n5 => ix6 a b c d e k) (fun _ _ w => congrFun w 5) (fiber h a b c d e) ⊥ v

theorem sum_last (v : (⟨6, ![n0, n1, n2, n3, n4, n5]⟩ : Shape).Idx → EReal) :
    Ideal.hostReduceAdd h v 0 (ix5 a b c d e) = ∑ k : Fin n5, v (ix6 a b c d e k) :=
  (zero_add _).trans (Finset.sum_filter_eq_sum_of_fiber _ (fun k : Fin n5 => ix6 a b c d e k) (fun _ _ w => congrFun w 5) (fiber h a b c d e) v)
end

/-- Division by the root of 128. -/
theorem div_root (x : EReal) : Ideal.div x (Ideal.sqrt (Ideal.ofBits .f32 0x43000000#32)) = x * (rs : EReal) := by
  have h : Ideal.ofBits .f32 0x43000000#32 = ((128 : ℝ) : EReal) := by simp [Ideal.ofBits, Ideal.ieee, -EReal.coe_mul]; norm_num
  rw [h, Ideal.sqrt_coe, if_neg (by norm_num), Ideal.div_coe (Real.sqrt_pos.mpr (by norm_num)).ne', one_div]
  rfl

theorem minus_inf : Ideal.ofBits .f32 0xFF800000#32 = (⊥ : EReal) := by simp [Ideal.ofBits, Ideal.ieee]
theorem the_one : Ideal.ofBits .f32 0x3F800000#32 = (1 : EReal) := by simp [Ideal.ofBits, Ideal.ieee, -EReal.coe_mul]; norm_num

variable (Q K W X : FVec Ideal S8x8192x4x128 .f32)

/-- The positions of the queries, block by block. -/
def queryPos : IVec S128x64 32 := (addi (broadcastInDim S128x64 ![0, 1] bcast_S128x1_S128x64_0_1 (muli (broadcastInDim S128x1 ![0] bcast_S128_S128x1_0 (iotaInDim S128 32 0)) (broadcastInDim S128x1 ![] bcast_S_S128x1 (constantI S_ 32 64#32)))) (broadcastInDim S128x64 ![0, 1] bcast_S1x64_S128x64_0_1 (broadcastInDim S1x64 ![1] bcast_S64_S1x64_1 (iotaInDim S64 32 0))))
/-- The positions of the keys of each block's window. -/
def keyPos : IVec S128x192 32 := (addi (broadcastInDim S128x192 ![0, 1] bcast_S128x1_S128x192_0_1 (muli (subi (broadcastInDim S128x1 ![0] bcast_S128_S128x1_0 (iotaInDim S128 32 0)) (broadcastInDim S128x1 ![] bcast_S_S128x1 (constantI S_ 32 1#32))) (broadcastInDim S128x1 ![] bcast_S_S128x1 (constantI S_ 32 64#32)))) (broadcastInDim S128x192 ![0, 1] bcast_S1x192_S128x192_0_1 (broadcastInDim S1x192 ![1] bcast_S192_S1x192_1 (iotaInDim S192 32 0))))
/-- The pairs the attention keeps. -/
def valid : IVec S128x64x192 1 := andi (andi (cmpi .sle (absi (subi (broadcastInDim S128x64x192 ![0, 1, 2] bcast_S128x1x192_S128x64x192_0_1_2 (broadcastInDim S128x1x192 ![0, 2] bcast_S128x192_S128x1x192_0_2 keyPos)) (broadcastInDim S128x64x192 ![0, 1, 2] bcast_S128x64x1_S128x64x192_0_1_2 (broadcastInDim S128x64x1 ![0, 1] bcast_S128x64_S128x64x1_0_1 queryPos)))) (broadcastInDim S128x64x192 ![] bcast_S_S128x64x192 (constantI S_ 32 64#32))) (broadcastInDim S128x64x192 ![0, 1, 2] bcast_S128x1x192_S128x64x192_0_1_2 (cmpi .sge (broadcastInDim S128x1x192 ![0, 2] bcast_S128x192_S128x1x192_0_2 keyPos) (broadcastInDim S128x1x192 ![] bcast_S_S128x1x192 (constantI S_ 32 0#32))))) (broadcastInDim S128x64x192 ![0, 1, 2] bcast_S128x1x192_S128x64x192_0_1_2 (cmpi .slt (broadcastInDim S128x1x192 ![0, 2] bcast_S128x192_S128x1x192_0_2 keyPos) (broadcastInDim S128x1x192 ![] bcast_S_S128x1x192 (constantI S_ 32 8192#32))))
/-- The queries, block by block. -/
def qb : FVec Ideal S8x1x4x128x64x128 .f32 := (shapeCast _ (pad S8x1x4x8192x128 ![0, 0, 0, 0, 0] ![0, 0, 0, 0, 0] ![0, 0, 0, 0, 0] (transpose S8x1x4x8192x128 [0, 2, 3, 1, 4] (shapeCast _ (X) shapeCasts_S8x8192x4x128_S8x8192x1x4x128) transposes_S8x8192x1x4x128_S8x1x4x8192x128_0_2_3_1_4) (sitofp .f32 (constantI S_ 32 0#32)) pads_S8x1x4x8192x128_S8x1x4x8192x128_000_000_000_000_000 h_S_) shapeCasts_S8x1x4x8192x128_S8x1x4x128x64x128)
/-- A padded sequence, block by block. -/
def padded : FVec Ideal S8x1x4x130x64x128 .f32 := (shapeCast _ (pad S8x1x4x8320x128 ![0, 0, 0, 64, 0] ![0, 0, 0, 64, 0] ![0, 0, 0, 0, 0] (transpose S8x1x4x8192x128 [0, 2, 3, 1, 4] (shapeCast _ (X) shapeCasts_S8x8192x4x128_S8x8192x1x4x128) transposes_S8x8192x1x4x128_S8x1x4x8192x128_0_2_3_1_4) (sitofp .f32 (constantI S_ 32 0#32)) pads_S8x1x4x8192x128_S8x1x4x8320x128_000_000_000_64640_000 h_S_) shapeCasts_S8x1x4x8320x128_S8x1x4x130x64x128)
/-- Each block's window of rows. -/
def win : FVec Ideal S8x1x4x128x192x128 .f32 := (concatenate S8x1x4x128x192x128 4 [⟨S8x1x4x128x64x128, ((extractStridedSlice S8x1x4x128x64x128 ![0, 0, 0, 0, 0, 0] (padded X) slices_S8x1x4x130x64x128_S8x1x4x128x64x128_0_0_0_0_0_0) : (⟨S8x1x4x128x64x128, .f32⟩ : BufTy).Contents (Elt Ideal))⟩, ⟨S8x1x4x128x64x128, ((extractStridedSlice S8x1x4x128x64x128 ![0, 0, 0, 1, 0, 0] (padded X) slices_S8x1x4x130x64x128_S8x1x4x128x64x128_0_0_0_1_0_0) : (⟨S8x1x4x128x64x128, .f32⟩ : BufTy).Contents (Elt Ideal))⟩, ⟨S8x1x4x128x64x128, ((extractStridedSlice S8x1x4x128x64x128 ![0, 0, 0, 2, 0, 0] (padded X) slices_S8x1x4x130x64x128_S8x1x4x128x64x128_0_0_0_2_0_0) : (⟨S8x1x4x128x64x128, .f32⟩ : BufTy).Contents (Elt Ideal))⟩] concatenates_S8x1x4x128x64x128_S8x1x4x128x64x128_S8x1x4x128x64x128_S8x1x4x128x192x128_d4 : (⟨S8x1x4x128x192x128, .f32⟩ : BufTy).Contents (Elt Ideal))
/-- The masked scores. -/
def scores : FVec Ideal S8x1x4x128x64x192 .f32 := select (broadcastInDim S8x1x4x128x64x192 ![3, 4, 5] bcast_S128x64x192_S8x1x4x128x64x192_3_4_5 valid) (Host.divf (Host.dotGeneral dot_S8x1x4x128x64x128_S8x1x4x128x192x128_S8x1x4x128x64x192_5_5_4_4_0123_0123 none (qb Q) ((win K))) (broadcastInDim S8x1x4x128x64x192 ![] bcast_S_S8x1x4x128x64x192 (Host.sqrt (constant S_ .f32 0x43000000#32)))) (broadcastInDim S8x1x4x128x64x192 ![] bcast_S_S8x1x4x128x64x192 (id (constant S_ .f32 0xFF800000#32)))
/-- The row maxima. -/
def maxes : FVec Ideal S8x1x4x128x64 .f32 := (Host.reduce FloatOps.maximumf (scores Q K) (constant S_ .f32 0xFF800000#32) reducesTo_S8x1x4x128x64x192_S8x1x4x128x64_d5 h_S_)
/-- The unnormalised weights. -/
def weights : FVec Ideal S8x1x4x128x64x192 .f32 := Host.exp (subf (scores Q K) (broadcastInDim S8x1x4x128x64x192 ![0, 1, 2, 3, 4, 5] bcast_S8x1x4x128x64x1_S8x1x4x128x64x192_0_1_2_3_4_5 (broadcastInDim S8x1x4x128x64x1 ![0, 1, 2, 3, 4] bcast_S8x1x4x128x64_S8x1x4x128x64x1_0_1_2_3_4 (maxes Q K))))
/-- The denominators. -/
def sums : FVec Ideal S8x1x4x128x64 .f32 := (Host.reduceAdd (weights Q K) (constant S_ .f32 0x00000000#32) reducesTo_S8x1x4x128x64x192_S8x1x4x128x64_d5 h_S_)
/-- The numerators. -/
def numer : FVec Ideal S8x1x4x128x64x128 .f32 := (Host.dotGeneral dot_S8x1x4x128x64x192_S8x1x4x128x192x128_S8x1x4x128x64x128_5_4_4_5_0123_0123 none (weights Q K) (win W))
/-- The first result. -/
def out0 : FVec Ideal S8x1x8192x512 .f32 := shapeCast _ (transpose S8x1x8192x4x128 [0, 1, 3, 2, 4] (shapeCast _ (numer Q K W) shapeCasts_S8x1x4x128x64x128_S8x1x4x8192x128) transposes_S8x1x4x8192x128_S8x1x8192x4x128_0_1_3_2_4) shapeCasts_S8x1x8192x4x128_S8x1x8192x512
/-- The second result. -/
def out1 : FVec Ideal S8x1x8192x128 .f32 := (concatenate S8x1x8192x128 3 [⟨S8x1x8192x4, ((transpose S8x1x8192x4 [0, 1, 3, 2] (shapeCast _ (broadcastInDim S8x1x4x128x64x1 ![0, 1, 2, 3, 4] bcast_S8x1x4x128x64_S8x1x4x128x64x1_0_1_2_3_4 (maxes Q K)) shapeCasts_S8x1x4x128x64x1_S8x1x4x8192) transposes_S8x1x4x8192_S8x1x8192x4_0_1_3_2) : (⟨S8x1x8192x4, .f32⟩ : BufTy).Contents (Elt Ideal))⟩, ⟨S8x1x8192x4, ((transpose S8x1x8192x4 [0, 1, 3, 2] (shapeCast _ (broadcastInDim S8x1x4x128x64x1 ![0, 1, 2, 3, 4] bcast_S8x1x4x128x64_S8x1x4x128x64x1_0_1_2_3_4 (sums Q K)) shapeCasts_S8x1x4x128x64x1_S8x1x4x8192) transposes_S8x1x4x8192_S8x1x8192x4_0_1_3_2) : (⟨S8x1x8192x4, .f32⟩ : BufTy).Contents (Elt Ideal))⟩, ⟨S8x1x8192x120, ((broadcastInDim S8x1x8192x120 ![] bcast_S_S8x1x8192x120 (constant S_ .f32 0x3F800000#32 : FVec Ideal S_ .f32)) : (⟨S8x1x8192x120, .f32⟩ : BufTy).Contents (Elt Ideal))⟩] concatenates_S8x1x8192x4_S8x1x8192x4_S8x1x8192x120_S8x1x8192x128_d3 : (⟨S8x1x8192x128, .f32⟩ : BufTy).Contents (Elt Ideal))

section
variable (m : (ℓ : Loc nD τ sig) → Buf (Elt Ideal) ℓ) (c : Dev nD)
theorem res0 : Cert.RefAttn1Ideal.Value.res_out0 m c = out0 (m ((c.tc : Thread nD τ).loc main_arg0)) (m ((c.tc : Thread nD τ).loc main_arg1)) (m ((c.tc : Thread nD τ).loc main_arg2)) := rfl
theorem res1 : Cert.RefAttn1Ideal.Value.res_out1 m c = out1 (m ((c.tc : Thread nD τ).loc main_arg0)) (m ((c.tc : Thread nD τ).loc main_arg1)) := rfl
end

/-- A sequence's entry as a row's lane. -/
theorem rows_lane (b : Fin 8) (u : Fin 8192) (h : Fin 4) (d : Fin 128) : rowsOf X b u (lane h d) = X (ix4 b u h d) := by
  unfold rowsOf lane
  congr 1
  funext x; apply Fin.ext
  match x with
  | ⟨0, _⟩ => rfl
  | ⟨1, _⟩ => rfl
  | ⟨2, _⟩ => show (128 * h.val + d.val) / 128 = h.val; omega
  | ⟨3, _⟩ => show (128 * h.val + d.val) % 128 = d.val; omega

section
variable (b : Fin 8) (h : Fin 4) (n : Fin 128) (a : Fin 64) (j : Fin 192) (d : Fin 128)

theorem query_word : (queryPos (ix2 n a)).toInt = ((n.val * 64 + a.val : ℕ) : ℤ) := by
  pointwise [queryPos]
  refine (add_word (mul_word (nat_word (by omega)) (show (64#32).toInt = 64 by decide) (by omega) (by omega)) (nat_word (by omega)) (by omega) (by omega)).trans (by push_cast; rfl)

theorem key_word : (keyPos (ix2 n j)).toInt = ((n.val * 64 + j.val : ℕ) : ℤ) - 64 := by
  pointwise [keyPos]
  refine (add_word (mul_word (sub_word (nat_word (by omega)) (show (1#32).toInt = 1 by decide) (by omega) (by omega)) (show (64#32).toInt = 64 by decide) (by omega) (by omega)) (nat_word (by omega)) (by omega) (by omega)).trans (by push_cast; ring)

/-- Query and key are kept when they are within 64 and the key is one. -/
theorem valid_at : valid (ix3 n a j) = BitVec.ofBool (decide (((((n.val * 64 + j.val : ℕ) : ℤ) - 64 ≤ ((n.val * 64 + a.val : ℕ) : ℤ) + 64 ∧ ((n.val * 64 + a.val : ℕ) : ℤ) ≤ ((n.val * 64 + j.val : ℕ) : ℤ) - 64 + 64) ∧ 0 ≤ ((n.val * 64 + j.val : ℕ) : ℤ) - 64) ∧ ((n.val * 64 + j.val : ℕ) : ℤ) - 64 < 8192)) := by
  pointwise [valid]
  rw [band_word (key_word n j) (query_word n a) (by rw [abs_lt]; omega) (by rw [abs_lt]; omega),
    sge_word (key_word n j) (show (0#32).toInt = 0 by decide), slt_word (key_word n j) (show (8192#32).toInt = 8192 by decide), and_word, and_word]

theorem qb_at (u : Fin 8192) (hu : u.val = n.val * 64 + a.val) : qb X (ix6 b (0 : Fin 1) h n a d) = X (ix4 b u h d) := by
  pointwise [qb]
  rw [dif_pos (by omega)]
  congr 2
  exact Fin.ext hu.symm

theorem padded_at (n : Fin 130) (u : Fin 8192) (hu : u.val + 64 = n.val * 64 + a.val) : padded X (ix6 b (0 : Fin 1) h n a d) = X (ix4 b u h d) := by
  pointwise [padded]
  rw [dif_pos (by omega)]
  congr 2
  apply Fin.ext; show n.val * 64 + a.val - 64 = u.val; omega

theorem win_at (u : Fin 8192) (hu : u.val + 64 = n.val * 64 + j.val) : win X (ix6 b (0 : Fin 1) h n j d) = X (ix4 b u h d) := by
  pointwise [win]
  split_ifs <;> exact padded_at X b h _ d _ u (by simp only; omega)

theorem scores_at : scores Q K (ix6 b (0 : Fin 1) h n a j) =
    if ((((n.val * 64 + j.val : ℕ) : ℤ) - 64 ≤ ((n.val * 64 + a.val : ℕ) : ℤ) + 64 ∧ ((n.val * 64 + a.val : ℕ) : ℤ) ≤ ((n.val * 64 + j.val : ℕ) : ℤ) - 64 + 64) ∧ 0 ≤ ((n.val * 64 + j.val : ℕ) : ℤ) - 64) ∧ ((n.val * 64 + j.val : ℕ) : ℤ) - 64 < 8192
    then (∑ d : Fin 128, qb Q (ix6 b (0 : Fin 1) h n a d) * win K (ix6 b (0 : Fin 1) h n j d)) * (rs : EReal) else ⊥ := by
  pointwise [scores]
  rw [valid_at, select_word, div_root]
  rw [show id (constant (F := Ideal) S_ FTy.f32 4286578688#32) ix0 = ⊥ from minus_inf]

/-- A row of masked scores is a window of the query's banded scores. -/
theorem row_win (u : Fin 8192) (hu : u.val = n.val * 64 + a.val) :
    Win (n.val * 64) (fun j : Fin 192 => scores Q K (ix6 b (0 : Fin 1) h n a j)) (rowS (rowsOf Q b) (rowsOf K b) u h) := by
  refine win_bandScore _ _ _ (by omega) (by omega) (fun j w hw => ?_) (fun j hj => ?_)
  · rw [scores_at]
    unfold bandScore score
    have e : (∑ d : Fin 128, qb Q (ix6 b (0 : Fin 1) h n a d) * win K (ix6 b (0 : Fin 1) h n j d)) = ∑ d : Fin 128, rowsOf Q b u (lane h d) * rowsOf K b w (lane h d) :=
      Finset.sum_congr rfl fun d _ => by rw [qb_at Q b h n a d u hu, win_at K b h n j d w hw, rows_lane, rows_lane]
    rw [e]
    have := w.isLt
    exact if_congr (by omega) rfl rfl
  · rw [scores_at, if_neg]
    rintro ⟨⟨_, h0⟩, h1⟩
    exact hj ⟨n.val * 64 + j.val - 64, by omega⟩ (by simp only; omega)

theorem maxes_at : maxes Q K (ix5 b (0 : Fin 1) h n a) = rowMax fun j : Fin 192 => scores Q K (ix6 b (0 : Fin 1) h n a j) := by
  pointwise [maxes]
  rw [minus_inf]
  exact fold_last _ _ _ _ _ _ _

theorem sums_at : sums Q K (ix5 b (0 : Fin 1) h n a) = ∑ j : Fin 192, Ideal.exp (scores Q K (ix6 b (0 : Fin 1) h n a j) - rowMax fun j : Fin 192 => scores Q K (ix6 b (0 : Fin 1) h n a j)) := by
  pointwise [sums]
  refine (sum_last _ _ _ _ _ _ _).trans (Finset.sum_congr rfl fun j _ => ?_)
  pointwise [weights]
  rw [maxes_at]

theorem numer_at : numer Q K W (ix6 b (0 : Fin 1) h n a d) = ∑ j : Fin 192, Ideal.exp (scores Q K (ix6 b (0 : Fin 1) h n a j) - rowMax fun j : Fin 192 => scores Q K (ix6 b (0 : Fin 1) h n a j)) * win W (ix6 b (0 : Fin 1) h n j d) := by
  pointwise [numer, weights]
  simp only [maxes_at]
end

/-- The reference's numerators are those of the banded softmax. -/
theorem out0_eq : out0 Q K W = numOf Q K W := by
  funext y
  have h2 : (y 2).val < 8192 := (y 2).isLt
  have h3 : (y 3).val < 512 := (y 3).isLt
  pointwise [out0]
  refine (numer_at Q K W _ _ _ _ _).trans ?_
  refine ((row_win Q K _ _ _ _ (y 2) (by simp only; omega)).num_eq _ (fun u => rowsOf W (y 0) u (lane ⟨(y 3).val / 128, by omega⟩ ⟨(y 3).val % 128, by omega⟩)) (fun j u hu => ?_)).trans rfl
  exact (win_at W _ _ _ _ _ u hu).trans (rows_lane W _ u _ _).symm

/-- The reference's statistics are those of the banded softmax. -/
theorem out1_eq : out1 Q K = stOf Q K := by
  funext y
  have h2 : (y 2).val < 8192 := (y 2).isLt
  have h3 : (y 3).val < 128 := (y 3).isLt
  pointwise [out1]
  unfold stOf outS
  by_cases hA : (y 3).val < 4
  · rw [dif_pos hA, dif_pos hA]
    exact (maxes_at Q K _ _ _ _).trans (row_win Q K _ _ _ _ (y 2) (by simp only; omega)).max_eq
  · rw [dif_neg hA, dif_neg hA]
    by_cases hB : (y 3).val < 8
    · rw [dif_pos (by omega), dif_pos hB]
      exact (sums_at Q K _ _ _ _).trans (row_win Q K _ _ _ _ (y 2) (by simp only; omega)).sum_eq
    · rw [dif_neg (by omega), dif_neg hB]
end Cert.AttnRef
-- ==== Proof.AttnClaims.lean ====
/- The claims of the attention group of dilation 1. -/
module

public import proofs.«01_k».proof.Defs
public import proofs.«01_k».proof.Proof.AttnRef
public import proofs.«01_k».proof.Proof.Gen.Attn1
public import proofs.«01_k».proof.Proof.Gen.Attn1.Frame
public import proofs.«01_k».proof.Proof.Gen.Attn1Ideal.Value
public import proofs.«01_k».proof.Proof.Gen.RefAttn1Ideal.Run
public import Idealize.ShloMosaic.Lib.Claim
public import Idealize.ShloMosaic.Lib.Quiescent

@[expose] public section
set_option maxRecDepth 16384
noncomputable section
namespace Cert.AttnClaims
open Idealize.ShloMosaic Idealize.SL.Sem

/-- The kernel ends, its arguments unchanged and its semaphores at rest. -/
theorem frame_p : Cert.quiescent_Attn1 := fun m ρ _ => Cert.Attn1.Gen.frame m ρ

/-- So does its ideal reading. -/
theorem frame_pi : Cert.quiescent_Attn1Ideal := fun m ρ _ => Cert.Attn1Ideal.Gen.frame m ρ

/-- So does the reference. -/
theorem frame_ri : Cert.quiescent_RefAttn1Ideal := fun m ρ _ =>
  (θ_run Cert.RefAttn1Ideal.defs _ _).mono (fun r h => ⟨fun c => (h c).2.2, sem_eq_zero_of_no_sems (by decide) r.2⟩)
    (Cert.RefAttn1Ideal.Value.run (F := Ideal) m ρ)

/-- The three constants the kernel rounds are named by their exact values. -/
theorem preserves : Cert.preserves_Attn1_Attn1Ideal :=
  ⟨IdealRules.named_const.statement Cert.Attn1Ideal.κ "mask" .f32 0xF149F2CA#32 ⊥ rfl,
    IdealRules.named_const.statement Cert.Attn1Ideal.κ "scale2" .f32 0x3E0293EE#32 (((Real.log 2)⁻¹ * (Real.sqrt 128)⁻¹ : ℝ) : EReal) rfl,
    IdealRules.named_const.statement Cert.Attn1Ideal.κ "ln2" .f32 0x3F317218#32 ((Real.log 2 : ℝ) : EReal) rfl⟩

/-- Kernel and reference compute the same numerators and statistics. -/
theorem algebraic : Cert.algebraic_Attn1Ideal_RefAttn1Ideal := by
  pair_intro
  · run_from Cert.Attn1Ideal.Value.run_blocks m g
  · run_from Cert.RefAttn1Ideal.Value.run m' g'
    · refine ((AttnRef.res0 m' c).trans (AttnRef.out0_eq _ _ _)).trans (Eq.trans ?_ (AttnKernel.final7 m c).symm)
      exact congr (congr (congrArg AttnKernel.numOf (hagree c).1) (hagree c).2.1) (hagree c).2.2
    · refine ((AttnRef.res1 m' c).trans (AttnRef.out1_eq _ _)).trans (Eq.trans ?_ (AttnKernel.final8 m c).symm)
      exact congr (congrArg AttnKernel.stOf (hagree c).1) (hagree c).2.1

end Cert.AttnClaims
end
-- ==== Proof.FfnMath.lean ====
/- The gated unit of the expert feed-forward over the extended reals, and a sum cut in four. -/
module

public import Idealize.ShloMosaic.PureOps.Ideal
public import Mathlib.Algebra.BigOperators.Fin

@[expose] public section
noncomputable section
namespace Cert.FfnMath
open Idealize.ShloMosaic

theorem half : Ideal.ofBits .f32 0x3F000000#32 = ((1 / 2 : ℝ) : EReal) := by
  simp [Ideal.ofBits, Ideal.ieee, -EReal.coe_mul]; norm_num

theorem half_tanh (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; ring_nf
  have e1 : Real.exp (1 / 2 * r) = (Real.exp (-(1 / 2 * r)))⁻¹ := by rw [Real.exp_neg, inv_inv]
  have p := Real.exp_pos (-(1 / 2 * r))
  rw [Real.tanh_eq_sinh_div_cosh, Real.sinh_eq, Real.cosh_eq, e, e1]
  generalize Real.exp (-(1 / 2 * r)) = y at *
  have : 1 + y * y ≠ 0 := by positivity
  have : y⁻¹ + y ≠ 0 := by positivity
  field_simp
  ring

/-- The logistic function by a hyperbolic tangent of half the argument, at every extended real. -/
theorem logistic_eq (x : EReal) : ((1 / 2 : ℝ) : EReal) * Ideal.tanh (((1 / 2 : ℝ) : EReal) * x) + ((1 / 2 : ℝ) : EReal) = Ideal.logistic x := by
  have hp : (0 : ℝ) < 1 / 2 := by norm_num
  induction x using EReal.rec with
  | bot =>
    rw [EReal.coe_mul_bot_of_pos hp, Ideal.tanh_bot, Ideal.logistic_bot, ← EReal.coe_one, ← EReal.coe_neg, ← EReal.coe_mul, ← EReal.coe_add, ← EReal.coe_zero]
    norm_num
  | top =>
    rw [EReal.coe_mul_top_of_pos hp, Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add, half_tanh]

/-- The gated unit: the gate's value times its logistic function times the linear value. -/
def gated (g u : EReal) : EReal := g * Ideal.logistic g * u

/-- The stretch of 512 hidden units that begins at `512 n`. -/
def unit (n : Fin 4) (k : Fin 512) : Fin 2048 := ⟨512 * n.val + k.val, by omega⟩

/-- Four partial sums make the whole. -/
theorem four_sums (f : Fin 2048 → EReal) : (∑ k, f (unit 0 k)) + (∑ k, f (unit 1 k)) + (∑ k, f (unit 2 k)) + (∑ k, f (unit 3 k)) = ∑ u, f u := by
  rw [← Fin.sum_univ_four (fun n => ∑ k, f (unit n k)), ← Fintype.sum_prod_type' (fun n k => f (unit n k))]
  refine Fintype.sum_equiv finProdFinEquiv _ _ fun p => congrArg f (Fin.ext ?_)
  show 512 * p.1.val + p.2.val = p.2.val + 512 * p.1.val
  exact Nat.add_comm _ _

end Cert.FfnMath
end
-- ==== Proof.FfnTile.lean ====
/- What one grid point of the feed-forward kernel leaves in its output block, entry by entry, over its input blocks. -/
module

public import proofs.«01_k».proof.Proof.FfnMath
public import proofs.«01_k».proof.Proof.Gen.FfnIdeal.Value
public import Idealize.ShloMosaic.Lib.WholeRead
public import Idealize.ShloMosaic.Lib.VecWindow
public import Idealize.ShloMosaic.Lib.Pointwise

@[expose] public section
set_option maxRecDepth 16384
noncomputable section
namespace Cert.FfnTile
open Cert.FfnIdeal Cert.FfnIdeal.Gen Idealize.ShloMosaic Idealize.ShloMosaic.TcCoe Idealize.SL.Sem Cert.FfnMath

/-- The rows times 512 columns of a weight. -/
def cols (x : FVec Ideal S1024x1024 .bf16) (w : Vec Ideal S1x1024x512 .bf16) : FVec Ideal S1024x512 .f32 :=
  matmul (φ₁ := .bf16) (φ₂ := .bf16) dot_S1024x1024_S1024x512_S1024x512_1_0_0_1_n_n none x (shapeCast S1024x512 w shapeCasts_S1x1024x512_S1024x512 : FVec Ideal S1024x512 .bf16) (constant S1024x512 .f32 0x00000000#32)

/-- What a stretch of 512 hidden units adds to the result. -/
def part (x : FVec Ideal S1024x1024 .bf16) (wg wu : Vec Ideal S1x1024x512 .bf16) (wd : Vec Ideal S1x512x1024 .bf16) : FVec Ideal S1024x1024 .f32 :=
  matmul (φ₁ := .bf16) (φ₂ := .bf16) dot_S1024x512_S512x1024_S1024x1024_1_0_0_1_n_n none
    (truncf .bf16 (mulf (mulf (cols x wg) (addf (mulf (broadcast S1024x512 (Scalar.ofBits .f32 0x3F000000#32)) (tanh (mulf (broadcast S1024x512 (Scalar.ofBits .f32 0x3F000000#32)) (cols x wg))))
      (broadcast S1024x512 (Scalar.ofBits .f32 0x3F000000#32)))) (cols x wu)) bitsLt_bf16_f32)
    (shapeCast S512x1024 wd shapeCasts_S1x512x1024_S512x1024 : FVec Ideal S512x1024 .bf16) (constant S1024x1024 .f32 0x00000000#32)

theorem cols_at (x w i) : cols x w i = ∑ d : Fin 1024, x (ix2 (i 0) d) * w (ix3 (0 : Fin 1) d (i 1)) := by
  pointwise [cols]

theorem part_at (x wg wu wd i) : part x wg wu wd i = ∑ k : Fin 512, gated (∑ d : Fin 1024, x (ix2 (i 0) d) * wg (ix3 (0 : Fin 1) d k)) (∑ d : Fin 1024, x (ix2 (i 0) d) * wu (ix3 (0 : Fin 1) d k)) * wd (ix3 (0 : Fin 1) k (i 1)) := by
  pointwise [part, cols_at]
  refine Finset.sum_congr rfl fun k _ => ?_
  unfold gated
  rw [half, logistic_eq]

/-- A stretch's partial sum as the kernel stores it, onto the sum so far. -/
theorem first (v0 v4 v7 v20) : k0_pay5 (F := Ideal) v0 v4 v7 v20 = part (k0_pay3 v0) v4 v7 v20 :=
  shapeCast_id _ _
theorem second (v0 v26 v29 v42 v45) : k0_pay7 (F := Ideal) (k0_pay3 v0) (k0_pay6 v26) (constant S1024x512 .f32 0x00000000#32) v29 v42 v45 = addf v45 (part (k0_pay3 v0) v26 v29 v42) :=
  shapeCast_id _ _
theorem third (v0 v50 v53 v66 v69) : k0_pay11 (F := Ideal) (k0_pay8 (k0_pay3 v0) v50) (k0_pay9 (k0_pay3 v0) v53) (k0_pay10 (k0_pay3 v0) v50) (Scalar.ofBits .f32 0x3F000000#32) v66 v69 = addf v69 (part (k0_pay3 v0) v50 v53 v66) :=
  shapeCast_id _ _
theorem fourth (v0 v74 v77 v90 v93) : k0_pay1 (F := Ideal) (k0_pay12 (k0_pay3 v0) v74 v77 v90 v93) = addf v93 (part (k0_pay3 v0) v74 v77 v90) :=
  shapeCast_id _ _

variable (t : Fin cfg0.N) (x0 : Vec Ideal S1x1x1024x1024 .bf16) (x1 : Vec Ideal S1x1x1024x128 .f32) (x2 x3 : Vec Ideal S1x1024x2048 .bf16) (x4 : Vec Ideal S1x2048x1024 .bf16)

/-- A load of one stretch of a weight's columns. -/
theorem load_cols {sig : RefSig} {κ : Kind} {sp : Space} {M : Memref sig κ sp S1x1024x2048 .bf16} (hM : M.IsWhole) (X : Vec Ideal S1x1024x2048 .bf16) (n : Fin 4) (o : ℕ) (ho : o = 512 * n.val) (hb) (i : Fin 1) (a : Fin 1024) (k : Fin 512) :
    View.readAt (Elt Ideal) M.view (Rect.unit (s := S1x1024x2048) ![0, 0, o] S1x1024x512.size hb).toLoadRect (hM.unread X) (ix3 i a k) = X (ix3 (0 : Fin 1) a (unit n k)) := by
  subst ho
  rw [Memref.IsWhole.readAt_unread]
  congr 1; funext x; apply Fin.ext
  rw [LoadRect.idx_apply]
  fin_cases x <;> simp [unit]

/-- A load of one stretch of a weight's rows. -/
theorem load_rows {sig : RefSig} {κ : Kind} {sp : Space} {M : Memref sig κ sp S1x2048x1024 .bf16} (hM : M.IsWhole) (X : Vec Ideal S1x2048x1024 .bf16) (n : Fin 4) (o : ℕ) (ho : o = 512 * n.val) (hb) (i : Fin 1) (k : Fin 512) (a : Fin 1024) :
    View.readAt (Elt Ideal) M.view (Rect.unit (s := S1x2048x1024) ![0, o, 0] S1x512x1024.size hb).toLoadRect (hM.unread X) (ix3 i k a) = X (ix3 (0 : Fin 1) (unit n k) a) := by
  subst ho
  rw [Memref.IsWhole.readAt_unread]
  congr 1; funext x; apply Fin.ext
  rw [LoadRect.idx_apply]
  fin_cases x <;> simp [unit]

/-- The stretch `n` of the sum over hidden units, at row `r` and column `d`. -/
def term (r d : Fin 1024) (u : Fin 2048) : EReal :=
  gated (∑ e : Fin 1024, x0 (ix4 (0 : Fin 1) (0 : Fin 1) r e) * x2 (ix3 (0 : Fin 1) e u)) (∑ e : Fin 1024, x0 (ix4 (0 : Fin 1) (0 : Fin 1) r e) * x3 (ix3 (0 : Fin 1) e u)) * x4 (ix3 (0 : Fin 1) u d)

/-- The block of rows as the kernel loads it. -/
def rowsL : Vec Ideal S1x1x1024x1024 .bf16 := View.readAt (Elt Ideal) (ms0_0 t).view (Rect.unit ![0, 0, 0, 0] S1x1x1024x1024.size inb_S1x1x1024x1024_S1x1x1024x1024_0_0_0_0).toLoadRect ((hs0_0 t).unread x0)

theorem rowsL_at (r e : Fin 1024) : k0_pay3 (rowsL t x0) (ix2 r e) = x0 (ix4 (0 : Fin 1) (0 : Fin 1) r e) := by
  pointwise [k0_pay3]
  unfold rowsL
  rw [Memref.IsWhole.readAt_unread]
  congr 1; funext x; apply Fin.ext
  rw [LoadRect.idx_apply]
  fin_cases x <;> simp

theorem part_load (n : Fin 4) (o : ℕ) (ho : o = 512 * n.val) (hb hb' hb'') (r d : Fin 1024) :
    part (k0_pay3 (rowsL t x0)) (View.readAt (Elt Ideal) (ms0_2 t).view (Rect.unit (s := S1x1024x2048) ![0, 0, o] S1x1024x512.size hb).toLoadRect ((hs0_2 t).unread x2))
      (View.readAt (Elt Ideal) (ms0_3 t).view (Rect.unit (s := S1x1024x2048) ![0, 0, o] S1x1024x512.size hb').toLoadRect ((hs0_3 t).unread x3))
      (View.readAt (Elt Ideal) (ms0_4 t).view (Rect.unit (s := S1x2048x1024) ![0, o, 0] S1x512x1024.size hb'').toLoadRect ((hs0_4 t).unread x4)) (ix2 r d)
    = ∑ k : Fin 512, term x0 x2 x3 x4 r d (unit n k) := by
  rw [part_at]
  refine Finset.sum_congr rfl fun k _ => ?_
  unfold term
  refine congr (congrArg HMul.hMul (congr (congrArg gated ?_) ?_)) (load_rows (hs0_4 t) x4 n o ho hb'' _ _ _)
  · exact Finset.sum_congr rfl fun e _ => congr (congrArg HMul.hMul (rowsL_at t x0 r e)) (load_cols (hs0_2 t) x2 n o ho hb _ _ _)
  · exact Finset.sum_congr rfl fun e _ => congr (congrArg HMul.hMul (rowsL_at t x0 r e)) (load_cols (hs0_3 t) x3 n o ho hb' _ _ _)

/-- The sum that the accumulator ends with. -/
theorem acc_at (c : Dev nD) (r d : Fin 1024) : kernelRun0_A.sl.v98 (F := Ideal) c (ms0_0 t) (hs0_0 t) (ms0_2 t) (hs0_2 t) (ms0_3 t) (hs0_3 t) (ms0_4 t) (hs0_4 t) scM0_0 x0 x2 x3 x4 (ix2 r d) = ∑ u, term x0 x2 x3 x4 r d u := by
  rw [← four_sums]
  unfold kernelRun0_A.sl.v98 kernelRun0_A.sl.HS0_4
  rw [View.readCov_full]
  unfold kernelRun0_A.sl.r_6
  refine (congrFun (fourth (rowsL t x0) _ _ _ _) (ix2 r d)).trans ?_
  refine congr (congrArg HAdd.hAdd ?_) (part_load t x0 x2 x3 x4 3 1536 rfl _ _ _ r d)
  unfold kernelRun0_A.sl.v93 kernelRun0_A.sl.HS0_3
  rw [View.readCov_full]
  unfold kernelRun0_A.sl.r_3 kernelRun0_A.sl.r_4 kernelRun0_A.sl.r_5
  refine (congrFun (third (rowsL t x0) _ _ _ _) (ix2 r d)).trans ?_
  refine congr (congrArg HAdd.hAdd ?_) (part_load t x0 x2 x3 x4 2 1024 rfl _ _ _ r d)
  unfold kernelRun0_A.sl.v69 kernelRun0_A.sl.HS0_2
  rw [View.readCov_full]
  unfold kernelRun0_A.sl.r_2
  refine (congrFun (second (rowsL t x0) _ _ _ _) (ix2 r d)).trans ?_
  refine congr (congrArg HAdd.hAdd ?_) (part_load t x0 x2 x3 x4 1 512 rfl _ _ _ r d)
  unfold kernelRun0_A.sl.v45 kernelRun0_A.sl.HS0_1
  rw [View.readCov_full]
  exact (congrFun (first (rowsL t x0) _ _ _) (ix2 r d)).trans (part_load t x0 x2 x3 x4 0 0 rfl _ _ _ r d)

/-- The stored block, entry by entry. -/
def block : Vec Ideal S1x1x1024x1024 .bf16 := fun y =>
  (∑ u, term x0 x2 x3 x4 (y 2) (y 3) u) * x1 (ix4 (0 : Fin 1) (0 : Fin 1) (y 2) (0 : Fin 128))

theorem out_eq (c : Dev nD) : out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) x0 x1 x2 x3 x4 = block x0 x1 x2 x3 x4 := by
  unfold out0_A_5 kernelRun0_A
  dsimp only
  refine (View.read_writes_full _ _ _ _ _).trans ?_
  funext y
  pointwise [k0_pay2]
  unfold block
  refine congr (congrArg HMul.hMul (acc_at t x0 x2 x3 x4 c _ _)) ?_
  unfold kernelRun0_A.sl.r_1
  pointwise [k0_pay4]
  rw [Memref.IsWhole.readAt_unread]
  congr 1; funext x; apply Fin.ext
  rw [LoadRect.idx_apply]
  fin_cases x <;> simp

end Cert.FfnTile
end
-- ==== Proof.FfnKernel.lean ====
/- The feed-forward kernel's result, every entry, over its rows, gates and weights. -/
module

public import proofs.«01_k».proof.Proof.FfnTile
public import Idealize.ShloMosaic.Lib.Pipeline.ReadBack
public import Idealize.ShloMosaic.Lib.Pipeline.ValueKit

@[expose] public section
set_option maxRecDepth 16384
noncomputable section
namespace Cert.FfnKernel
open Cert.FfnIdeal Cert.FfnIdeal.Gen Idealize.ShloMosaic Idealize.ShloMosaic.TcCoe Idealize.SL.Sem Cert.FfnMath Cert.FfnTile

/-- The expert's answer to each row, times the row's gate. -/
def expert (X : Vec Ideal S8x16x1024x1024 .f32) (G : Vec Ideal S8x16x1024 .f32) (A B : Vec Ideal S16x1024x2048 .f32) (D : Vec Ideal S16x2048x1024 .f32) : Vec Ideal S8x16x1024x1024 .bf16 := fun y =>
  (∑ u : Fin 2048, gated (∑ e : Fin 1024, X (ix4 (y 0) (y 1) (y 2) e) * A (ix3 (y 1) e u)) (∑ e : Fin 1024, X (ix4 (y 0) (y 1) (y 2) e) * B (ix3 (y 1) e u)) * D (ix3 (y 1) u (y 3)))
    * G (ix3 (y 0) (y 1) (y 2))

variable (m : (ℓ : Loc nD τ sig) → Buf (Elt Ideal) ℓ) (c : Dev nD)
abbrev xA : Vec Ideal S8x16x1024x1024 .f32 := m ((c : Thread nD τ).loc main_arg0)
abbrev gA : Vec Ideal S8x16x1024 .f32 := m ((c : Thread nD τ).loc main_arg1)
abbrev aA : Vec Ideal S16x1024x2048 .f32 := m ((c : Thread nD τ).loc main_arg2)
abbrev bA : Vec Ideal S16x1024x2048 .f32 := m ((c : Thread nD τ).loc main_arg3)
abbrev dA : Vec Ideal S16x2048x1024 .f32 := m ((c : Thread nD τ).loc main_arg4)

/-- The windows' blocks, by grid point: the expert is `t / 8`, the batch `t % 8`. -/
theorem idx : ∀ t : Fin cfg0.N, win0_0.index t = ![t.val % 8, t.val / 8, 0, 0] ∧ win0_1.index t = ![t.val % 8, t.val / 8, 0, 0] ∧
    win0_2.index t = ![t.val / 8, 0, 0] ∧ win0_3.index t = ![t.val / 8, 0, 0] ∧ win0_4.index t = ![t.val / 8, 0, 0] ∧ win0_5.index t = ![t.val % 8, t.val / 8, 0, 0] :=
  (by decide +kernel : ∀ t : Fin grid0.N, _)

section
/-- The gates that the kernel reads: each gate in all 128 lanes. -/
theorem lanes : V m c main_v1 = broadcastInDim S8x16x1024x128 ![0, 1, 2, 3] bcast_S8x16x1024x1_S8x16x1024x128_0_1_2_3 (broadcastInDim S8x16x1024x1 ![0, 1, 2] bcast_S8x16x1024_S8x16x1024x1_0_1_2 (gA m c) : FVec Ideal S8x16x1024x1 .f32) := rfl

variable (t : Fin cfg0.N) (b : Fin 8) (hb : b.val = t.val % 8) (n : Fin 16) (hn : n.val = t.val / 8)
include hb hn

theorem blk0 (r e : Fin 1024) : iblk m c 0 t (ix4 (0 : Fin 1) (0 : Fin 1) r e) = xA m c (ix4 b n r e) :=
  Eq.trans (b := V m c main_v2 (ix4 b n r e)) (by blk_simp [iblk]; blk_ext [idx t]) rfl

theorem blk1 (r : Fin 1024) : iblk m c 1 t (ix4 (0 : Fin 1) (0 : Fin 1) r (0 : Fin 128)) = gA m c (ix3 b n r) := by
  refine Eq.trans (b := V m c main_v1 (ix4 b n r (0 : Fin 128))) (by blk_simp [iblk]; blk_ext [idx t]) ?_
  rw [lanes]
  pointwise
end
section
variable (t : Fin cfg0.N) (n : Fin 16) (hn : n.val = t.val / 8)
include hn
theorem blk2 (e : Fin 1024) (u : Fin 2048) : iblk m c 2 t (ix3 (0 : Fin 1) e u) = aA m c (ix3 n e u) :=
  Eq.trans (b := V m c main_v3 (ix3 n e u)) (by blk_simp [iblk]; blk_ext [idx t]) rfl
theorem blk3 (e : Fin 1024) (u : Fin 2048) : iblk m c 3 t (ix3 (0 : Fin 1) e u) = bA m c (ix3 n e u) :=
  Eq.trans (b := V m c main_v4 (ix3 n e u)) (by blk_simp [iblk]; blk_ext [idx t]) rfl
theorem blk4 (u : Fin 2048) (e : Fin 1024) : iblk m c 4 t (ix3 (0 : Fin 1) u e) = dA m c (ix3 n u e) :=
  Eq.trans (b := V m c main_v5 (ix3 n u e)) (by blk_simp [iblk]; blk_ext [idx t]) rfl
end

/-- The result after the run. -/
theorem final5 : (dats m 0 c).arrAt 5 cfg0.N = expert (xA m c) (gA m c) (aA m c) (bA m c) (dA m c) := by
  refine (dats m 0 c).arrAt_eq_of_covers 5 _ (by decide +kernel) fun t _ y => ?_
  blk_simp
  rw [after0_5]
  simp only [outsAt0]
  rw [out_eq]
  have h128 : t.val < 128 := t.isLt
  have hemb : ((View.whole main_v6).slice (win0_5.rect t)).emb y = ix4 (⟨t.val % 8, by omega⟩ : Fin 8) (⟨t.val / 8, by omega⟩ : Fin 16) (y 2) (y 3) := by blk_ext [idx t]
  rw [hemb]
  unfold block expert term
  refine congr (congrArg HMul.hMul (Finset.sum_congr rfl fun u _ => congr (congrArg HMul.hMul (congr (congrArg gated ?_) ?_)) (blk4 m c t _ rfl _ _))) (blk1 m c t _ rfl _ rfl _)
  · exact Finset.sum_congr rfl fun e _ => congr (congrArg HMul.hMul (blk0 m c t _ rfl _ rfl _ _)) (blk2 m c t _ rfl _ _)
  · exact Finset.sum_congr rfl fun e _ => congr (congrArg HMul.hMul (blk0 m c t _ rfl _ rfl _ _)) (blk3 m c t _ rfl _ _)

end Cert.FfnKernel
end
-- ==== Proof.FfnRef.lean ====
/- The reference feed-forward, every entry. -/
module

public import proofs.«01_k».proof.Proof.FfnKernel
public import proofs.«01_k».proof.Proof.Gen.RefFfnIdeal.Run

@[expose] public section
set_option maxRecDepth 16384
noncomputable section
namespace Cert.FfnRef
open Cert.RefFfnIdeal Cert.RefFfnIdeal.Gen Idealize.ShloMosaic Idealize.ShloMosaic.TcCoe Idealize.SL.Sem Idealize.ShloMosaic.StableHlo Cert.FfnMath Cert.FfnKernel

variable (X : FVec Ideal S8x16x1024x1024 .f32) (G : FVec Ideal S8x16x1024 .f32) (A B : FVec Ideal S16x1024x2048 .f32) (D : FVec Ideal S16x2048x1024 .f32)

/-- The rows times one of the two wide weights. -/
def wide (W : FVec Ideal S16x1024x2048 .f32) : FVec Ideal S8x16x1024x2048 .f32 :=
  transpose S8x16x1024x2048 [2, 0, 3, 1] (Host.dotGeneral dot_S16x1024x2048_S8x16x1024x1024_S16x2048x8x1024_1_3_2_02_0_1 none W X) transposes_S16x2048x8x1024_S8x16x1024x2048_2_0_3_1

/-- The hidden units. -/
def hid : FVec Ideal S8x16x1024x2048 .f32 :=
  mulf (mulf (wide X A) (Host.divf (broadcastInDim S8x16x1024x2048 ![] bcast_S_S8x16x1024x2048 (constant S_ .f32 0x3F800000#32)) (addf (broadcastInDim S8x16x1024x2048 ![] bcast_S_S8x16x1024x2048 (constant S_ .f32 0x3F800000#32)) (Host.exp (Host.negf (wide X A)))))) (wide X B)

/-- The result. -/
def out : FVec Ideal S8x16x1024x1024 .bf16 :=
  truncf .bf16 (mulf (transpose S8x16x1024x1024 [2, 0, 3, 1] (Host.dotGeneral dot_S16x2048x1024_S8x16x1024x2048_S16x1024x8x1024_1_3_2_02_0_1 none D (hid X A B)) transposes_S16x1024x8x1024_S8x16x1024x1024_2_0_3_1)
    (broadcastInDim S8x16x1024x1024 ![0, 1, 2, 3] bcast_S8x16x1024x1_S8x16x1024x1024_0_1_2_3 (broadcastInDim S8x16x1024x1 ![0, 1, 2] bcast_S8x16x1024_S8x16x1024x1_0_1_2 G))) bitsLt_bf16_f32

theorem wide_at (W i) : wide X W i = ∑ e : Fin 1024, X (ix4 (i 0) (i 1) (i 2) e) * W (ix3 (i 1) e (i 3)) := by
  pointwise [wide]
  exact Finset.sum_congr rfl fun e _ => mul_comm _ _

theorem hid_at (i) : hid X A B i = gated (wide X A i) (wide X B i) := by
  pointwise [hid]
  rfl

theorem out_eq : out X G A B D = expert X G A B D := by
  funext y
  pointwise [out, hid_at, wide_at]
  unfold expert
  refine congrArg (· * _) (Finset.sum_congr rfl fun u _ => mul_comm _ _)

end Cert.FfnRef
end
-- ==== Proof.FfnClaims.lean ====
/- The claims of the expert feed-forward. -/
module

public import proofs.«01_k».proof.Defs
public import proofs.«01_k».proof.Proof.FfnMath
public import proofs.«01_k».proof.Proof.Gen.Ffn
public import proofs.«01_k».proof.Proof.Gen.Ffn.Frame
public import proofs.«01_k».proof.Proof.Gen.FfnIdeal.Value
public import proofs.«01_k».proof.Proof.Gen.RefFfnIdeal.Run
public import Idealize.ShloMosaic.Lib.Claim
public import Idealize.ShloMosaic.Lib.Quiescent
public import proofs.«01_k».proof.Proof.FfnRef

@[expose] public section
set_option maxRecDepth 16384
noncomputable section
namespace Cert.FfnClaims
open Idealize.ShloMosaic Idealize.SL.Sem

/-- The kernel ends, its arguments unchanged and its semaphores at rest. -/
theorem frame_p : Cert.quiescent_Ffn := fun m ρ _ => Cert.Ffn.Gen.frame m ρ

/-- So does its ideal reading. -/
theorem frame_pi : Cert.quiescent_FfnIdeal := fun m ρ _ => Cert.FfnIdeal.Gen.frame m ρ

/-- So does the reference. -/
theorem frame_ri : Cert.quiescent_RefFfnIdeal := fun m ρ _ =>
  (θ_run Cert.RefFfnIdeal.defs _ _).mono (fun r h => ⟨fun c => (h c).2, sem_eq_zero_of_no_sems (by decide) r.2⟩)
    (Cert.RefFfnIdeal.Value.run (F := Ideal) m ρ)

/-- No operation is rewritten. -/
theorem preserves : Cert.preserves_Ffn_FfnIdeal := trivial

/-- Kernel and reference compute the same rows. -/
theorem algebraic : Cert.algebraic_FfnIdeal_RefFfnIdeal := by
  pair_intro
  · run_from Cert.FfnIdeal.Value.run_blocks m g
  · run_from Cert.RefFfnIdeal.Value.run m' g'
    exact (FfnRef.out_eq _ _ _ _ _).trans (FfnKernel.final5 m c).symm

end Cert.FfnClaims
end
-- ==== Proof.ProjKernel.lean ====
/- The projection of the recurrent branch: what the kernel's result holds, every entry, over its rows, weight and bias. -/
module

public import proofs.«01_k».proof.Proof.Gen.ProjIdeal.Value
public import Idealize.ShloMosaic.Lib.Pointwise
public import Idealize.ShloMosaic.Lib.Pipeline.ReadBack
public import Idealize.ShloMosaic.Lib.Pipeline.ValueKit

@[expose] public section
set_option maxRecDepth 16384
noncomputable section
namespace Cert.ProjKernel
open Cert.ProjIdeal Cert.ProjIdeal.Gen Idealize.ShloMosaic Idealize.ShloMosaic.TcCoe Idealize.SL.Sem

/-- The rows of all sequences times the first 2048 columns of the weight, plus their bias. -/
def branch (X : Vec Ideal S8x8192x1024 .f32) (W : Vec Ideal S1024x8704 .f32) (b : Vec Ideal S8704 .f32) : Vec Ideal S65536x2048 .f32 := fun y =>
  (∑ e : Fin 1024, X (ix3 (⟨(y 0).val / 8192, by have : (y 0).val < 65536 := (y 0).isLt; omega⟩ : Fin 8) (⟨(y 0).val % 8192, by omega⟩ : Fin 8192) e)
      * W (ix2 e (⟨(y 1).val, by have : (y 1).val < 2048 := (y 1).isLt; omega⟩ : Fin 8704)))
    + b (ix1 (⟨(y 1).val, by have : (y 1).val < 2048 := (y 1).isLt; omega⟩ : Fin 8704))

/-- A block of rows times the weight's columns, plus the bias. -/
def block (x0 : Vec Ideal S2048x1024 .bf16) (x1 : Vec Ideal S1024x2048 .bf16) (x2 : Vec Ideal S1x2048 .f32) : Vec Ideal S2048x2048 .f32 := fun y =>
  (∑ e : Fin 1024, x0 (ix2 (y 0) e) * x1 (ix2 e (y 1))) + x2 (ix2 (0 : Fin 1) (y 1))

/-- The same for 512 columns. -/
def cols (x : Vec Ideal S2048x1024 .bf16) (w : Vec Ideal S1024x512 .bf16) (b : Vec Ideal S1x512 .f32) : Vec Ideal S2048x512 .f32 := fun i =>
  (∑ e : Fin 1024, x (ix2 (i 0) e) * w (ix2 e (i 1))) + b (ix2 (0 : Fin 1) (i 1))

/-- The columns, as the kernel computes them. -/
theorem first (x w b) : k0_pay3 (F := Ideal) x w b = cols x w b := by
  funext i
  pointwise [k0_pay3, k0_pay2]
  rfl

/-- The four stretches of columns are computed alike. -/
theorem second (x w b) : k0_pay4 (F := Ideal) x w b = cols x w b := first x w b
theorem third (x w b) : k0_pay5 (F := Ideal) x w b = cols x w b := first x w b
theorem fourth (x w b) : k0_pay1 (F := Ideal) (k0_pay6 x w) b = cols x w b := first x w b

/-- One of the four stores writes its part of the block. -/
theorem piece (x0 x1 x2) (o : ℕ) (h0 h1 h2 h3) (x : S2048x512.Idx) :
    cols (View.ld x0 (Rect.unit (s := S2048x1024) ![0, 0] S2048x1024.size h0)) (View.ld x1 (Rect.unit (s := S1024x2048) ![0, o] S1024x512.size h1)) (View.ld x2 (Rect.unit (s := S1x2048) ![0, o] S1x512.size h2)) x
      = block x0 x1 x2 ((Rect.unit (s := S2048x2048) ![0, o] S2048x512.size h3).emb x) := by
  unfold cols block
  refine congr (congrArg HAdd.hAdd (Finset.sum_congr rfl fun e _ => congr (congrArg HMul.hMul ?_) ?_)) ?_
  all_goals
    show _ = _
    unfold View.ld
    congr 1; funext a; apply Fin.ext
    fin_cases a <;> simp [Rect.unit, Rect.emb]

/-- The four stores leave the block. -/
theorem out_eq (x0 x1 x2) : out0_3 (F := Ideal) x0 x1 x2 = block x0 x1 x2 := by
  funext y
  unfold out0_3
  simp only [first, second, third, fourth]
  refine View.canon_apply_of_pieces (Val := Elt Ideal) (block x0 x1 x2) _ ?_ y (cover0_3 _ _ _ _ y)
  intro p hp x
  simp only [List.mem_cons, List.not_mem_nil, or_false] at hp
  rcases hp with rfl | rfl | rfl | rfl
  · exact piece x0 x1 x2 _ _ _ _ inb_S2048x2048_S2048x512_0_1536 x
  · exact piece x0 x1 x2 _ _ _ _ inb_S2048x2048_S2048x512_0_1024 x
  · exact piece x0 x1 x2 _ _ _ _ inb_S2048x2048_S2048x512_0_512 x
  · exact piece x0 x1 x2 _ _ _ _ inb_S2048x2048_S2048x512_0_0 x

variable (m : (ℓ : Loc nD τ sig) → Buf (Elt Ideal) ℓ) (c : Dev nD)
abbrev xA : Vec Ideal S8x8192x1024 .f32 := m ((c : Thread nD τ).loc main_arg0)
abbrev wA : Vec Ideal S1024x8704 .f32 := m ((c : Thread nD τ).loc main_arg1)
abbrev bA : Vec Ideal S8704 .f32 := m ((c : Thread nD τ).loc main_arg2)

/-- The windows' blocks, by grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What the host code hands to the kernel. -/
theorem rows : V m c main_v1 = truncf .bf16 (shapeCast S65536x1024 (xA m c) shapeCasts_S8x8192x1024_S65536x1024 : FVec Ideal S65536x1024 .f32) bitsLt_bf16_f32 := rfl
theorem weight : V m c main_v3 = extractStridedSlice S1024x2048 ![0, 0] (truncf .bf16 (wA m c : FVec Ideal S1024x8704 .f32) bitsLt_bf16_f32 : FVec Ideal S1024x8704 .bf16) slices_S1024x8704_S1024x2048_0_0 := rfl
theorem bias : V m c main_v5 = extractStridedSlice S1x2048 ![0, 0] (shapeCast S1x8704 (bA m c) shapeCasts_S8704_S1x8704 : FVec Ideal S1x8704 .f32) slices_S1x8704_S1x2048_0_0 := rfl

/-- What the kernel reads at a grid point. -/
theorem blk0 (t : Fin cfg0.N) (r : Fin 2048) (e : Fin 1024) (n : Fin 8) (s : Fin 8192) (h : n.val * 8192 + s.val = t.val * 2048 + r.val) :
    iblk m c 0 t (ix2 r e) = xA m c (ix3 n s e) := by
  have ht : t.val < 32 := t.isLt
  refine Eq.trans (b := V m c main_v1 (ix2 (⟨t.val * 2048 + r.val, by omega⟩ : Fin 65536) e)) (by blk_simp [iblk]; blk_ext [idx t]) ?_
  rw [rows]
  pointwise
  refine congrArg (xA m c) (congrArg₂ (fun (p : Fin 8) (q : Fin 8192) => ix3 p q e) (Fin.ext ?_) (Fin.ext ?_)) <;> (dsimp only; omega)

theorem blk1 (t : Fin cfg0.N) (e : Fin 1024) (u : Fin 2048) : iblk m c 1 t (ix2 e u) = wA m c (ix2 e (⟨u.val, by omega⟩ : Fin 8704)) := by
  refine Eq.trans (b := V m c main_v3 (ix2 e u)) (by blk_simp [iblk]; blk_ext [idx t]) ?_
  rw [weight]
  pointwise

theorem blk2 (t : Fin cfg0.N) (u : Fin 2048) : iblk m c 2 t (ix2 (0 : Fin 1) u) = bA m c (ix1 (⟨u.val, by omega⟩ : Fin 8704)) := by
  refine Eq.trans (b := V m c main_v5 (ix2 (0 : Fin 1) u)) (by blk_simp [iblk]; blk_ext [idx t]) ?_
  rw [bias]
  pointwise

/-- The result after the run. -/
theorem final3 : (dats m 0 c).arrAt 3 cfg0.N = branch (xA m c) (wA m c) (bA m c) := by
  refine (dats m 0 c).arrAt_eq_of_covers 3 _ (by decide +kernel) fun t _ y => ?_
  blk_simp
  rw [after0_3, out_eq]
  have ht : t.val < 32 := t.isLt
  have hy : (y 0).val < 2048 := (y 0).isLt
  have hemb : ((View.whole main_v6).slice (win0_3.rect t)).emb y = ix2 (⟨t.val * 2048 + (y 0).val, by omega⟩ : Fin 65536) (y 1) := by blk_ext [idx t]
  rw [hemb]
  unfold block branch
  exact congr (congrArg HAdd.hAdd (Finset.sum_congr rfl fun e _ => congr (congrArg HMul.hMul (blk0 m c t _ _ _ _ (by simp; omega))) (blk1 m c t _ _))) (blk2 m c t _)

end Cert.ProjKernel
end
-- ==== Proof.ProjRef.lean ====
/- The reference projection, every entry. -/
module

public import proofs.«01_k».proof.Proof.ProjKernel
public import proofs.«01_k».proof.Proof.Gen.RefProjIdeal.Run

@[expose] public section
set_option maxRecDepth 16384
noncomputable section
namespace Cert.ProjRef
open Cert.RefProjIdeal Cert.RefProjIdeal.Gen Idealize.ShloMosaic Idealize.ShloMosaic.TcCoe Idealize.SL.Sem Idealize.ShloMosaic.StableHlo Cert.ProjKernel

/-- The result. -/
def out (X : FVec Ideal S8x8192x1024 .f32) (W : FVec Ideal S1024x8704 .f32) (b : FVec Ideal S8704 .f32) : FVec Ideal S65536x2048 .f32 :=
  shapeCast S65536x2048 (extractStridedSlice S8x8192x2048 ![0, 0, 0] (addf (Host.dotGeneral dot_S8x8192x1024_S1024x8704_S8x8192x8704_2_0_01_1_n_n none X W : FVec Ideal S8x8192x8704 .f32)
    (broadcastInDim S8x8192x8704 ![0, 1, 2] bcast_S1x1x8704_S8x8192x8704_0_1_2 (broadcastInDim S1x1x8704 ![2] bcast_S8704_S1x1x8704_2 b : FVec Ideal S1x1x8704 .f32))) slices_S8x8192x8704_S8x8192x2048_0_0_0 : FVec Ideal S8x8192x2048 .f32) shapeCasts_S8x8192x2048_S65536x2048

theorem out_eq (X W b) : out X W b = branch X W b := by
  funext y
  pointwise [out]
  rfl

end Cert.ProjRef
end
-- ==== Proof.ProjClaims.lean ====
/- The claims of the projection of the recurrent branch. -/
module

public import proofs.«01_k».proof.Defs
public import proofs.«01_k».proof.Proof.Gen.Proj
public import proofs.«01_k».proof.Proof.Gen.Proj.Frame
public import proofs.«01_k».proof.Proof.Gen.ProjIdeal.Value
public import proofs.«01_k».proof.Proof.Gen.RefProjIdeal.Run
public import Idealize.ShloMosaic.Lib.Claim
public import Idealize.ShloMosaic.Lib.Quiescent
public import proofs.«01_k».proof.Proof.ProjRef

@[expose] public section
set_option maxRecDepth 16384
noncomputable section
namespace Cert.ProjClaims
open Idealize.ShloMosaic Idealize.SL.Sem

/-- The kernel ends, its arguments unchanged and its semaphores at rest. -/
theorem frame_p : Cert.quiescent_Proj := fun m ρ _ => Cert.Proj.Gen.frame m ρ

/-- So does its ideal reading. -/
theorem frame_pi : Cert.quiescent_ProjIdeal := fun m ρ _ => Cert.ProjIdeal.Gen.frame m ρ

/-- So does the reference. -/
theorem frame_ri : Cert.quiescent_RefProjIdeal := fun m ρ _ =>
  (θ_run Cert.RefProjIdeal.defs _ _).mono (fun r h => ⟨fun c => (h c).2, sem_eq_zero_of_no_sems (by decide) r.2⟩)
    (Cert.RefProjIdeal.Value.run (F := Ideal) m ρ)

/-- No operation is rewritten. -/
theorem preserves : Cert.preserves_Proj_ProjIdeal := trivial

/-- Kernel and reference compute the same columns. -/
theorem algebraic : Cert.algebraic_ProjIdeal_RefProjIdeal := by
  pair_intro
  · run_from Cert.ProjIdeal.Value.run_blocks m g
  · run_from Cert.RefProjIdeal.Value.run m' g'
    exact (ProjRef.out_eq _ _ _).trans (ProjKernel.final3 m c).symm

end Cert.ProjClaims
end
-- ==== Proof.QkvTile.lean ====
/- The query, key and value kernel's stores at one grid point, as families over heads: the tiles of 128 columns, the staging buffer, the stores of the three groups. -/
module

public import proofs.«01_k».proof.Proof.AttnBlock
public import proofs.«01_k».proof.Proof.Gen.QkvIdeal.Value

@[expose] public section
set_option maxRecDepth 16384
noncomputable section
namespace Cert.QkvTile
open Cert.QkvIdeal Cert.QkvIdeal.Gen Idealize.ShloMosaic Idealize.ShloMosaic.TcCoe Idealize.SL.Sem
open Cert.AttnBlock (bnd2 down)

theorem slices2 {n w N W r c : ℕ} (hr : r + n ≤ N) (hc : c + w ≤ W) : Shape.Slices ⟨2, ![N, W]⟩ ![r, c] ⟨2, ![n, w]⟩ :=
  ⟨rfl, bnd2 hr hc⟩

/-- The 128 columns from `o` of a product of 512. -/
def part (P : FVec Ideal S1024x512 .f32) (o : ℕ) (ho : o + 128 ≤ 512) : FVec Ideal S1024x128 .f32 :=
  extractStridedSlice S1024x128 ![0, o] P (slices2 (by decide) ho)

/-- A tile with its first lanes turned by the tables. -/
def turned (T C S : FVec Ideal S1024x128 .f32) : FVec Ideal S1024x128 .f32 :=
  addf (mulf T C) (mulf (select (broadcastTo S1024x128 (shapeCast S1x128 k0_pay6 shapeCasts_S1x128_S1x128) broadcasts_S1x128_S1024x128) (dynamicRotate 1 112#32 none T rotates_S1024x128_d1) (dynamicRotate 1 16#32 none T rotates_S1024x128_d1)) S)

variable (t : Fin cfg0.N) (x0 : Vec Ideal S1024x1024 .f32) (x1 : Vec Ideal S1x1024 .f32) (x5 : Vec Ideal S1x4608 .f32) (x6 x7 : Vec Ideal S1024x128 .f32)

/-- The normalised rows of the block. -/
def nrm : FVec Ideal S1024x1024 .bf16 :=
  k0_pay3 (View.readAt (Elt Ideal) (ms0_0 t).view (Rect.unit ![0, 0] S1024x1024.size inb_S1024x1024_S1024x1024_0_0).toLoadRect ((hs0_0 t).unread x0))
    (View.readAt (Elt Ideal) (ms0_1 t).view (Rect.unit ![0, 0] S1x1024.size inb_S1x1024_S1x1024_0_0).toLoadRect ((hs0_1 t).unread x1))

/-- The tables' blocks. -/
def cosT : FVec Ideal S1024x128 .f32 :=
  k0_pay4 (View.readAt (Elt Ideal) (ms0_6 t).view (Rect.unit ![0, 0] S1024x128.size inb_S1024x128_S1024x128_0_0).toLoadRect ((hs0_6 t).unread x6))
def sinT : FVec Ideal S1024x128 .f32 :=
  k0_pay5 (View.readAt (Elt Ideal) (ms0_7 t).view (Rect.unit ![0, 0] S1024x128.size inb_S1024x128_S1024x128_0_0).toLoadRect ((hs0_7 t).unread x7))

section
variable (M : Memref sig .tc .vmem S1024x1536 .bf16) (hM : M.IsWhole) (x : Vec Ideal S1024x1536 .bf16) (g : ℕ) (hg : g < 3)

/-- Chunk `k` of group `g`: the rows against 512 columns of the weights, plus the biases. -/
def chunk (k : ℕ) (hk : k < 3) : FVec Ideal S1024x512 .f32 :=
  k0_pay17 (nrm t x0 x1) (View.readAt (Elt Ideal) M.view (Rect.unit (s := S1024x1536) ![0, 512 * k] S1024x512.size (bnd2 (by omega) (by omega))).toLoadRect (hM.unread x))
    (View.readAt (Elt Ideal) (ms0_5 t).view (Rect.unit (s := S1x4608) ![0, 1536 * g + 512 * k] S1x512.size (bnd2 (by omega) (by omega))).toLoadRect ((hs0_5 t).unread x5))

/-- Head `h` of group `g`: four of queries, four of keys, four of values. -/
def tile (h : ℕ) (hh : h < 12) : FVec Ideal S1024x128 .f32 :=
  bif Nat.blt h 8 then turned (part (chunk t x0 x1 x5 M hM x g hg (h / 4) (by omega)) (128 * (h % 4)) (by omega)) (cosT t x6) (sinT t x7)
  else part (chunk t x0 x1 x5 M hM x g hg (h / 4) (by omega)) (128 * (h % 4)) (by omega)
end

variable (x2 x3 x4 : Vec Ideal S1024x1536 .bf16)

/-- The heads of the three groups. -/
abbrev tile1 := tile t x0 x1 x5 x6 x7 (ms0_2 t) (hs0_2 t) x2 0 (by decide)
abbrev tile4 := tile t x0 x1 x5 x6 x7 (ms0_3 t) (hs0_3 t) x3 1 (by decide)
abbrev tile16 := tile t x0 x1 x5 x6 x7 (ms0_4 t) (hs0_4 t) x4 2 (by decide)

/-- The first group's stores. -/
def L1 : List (View.Piece (Elt Ideal) S1024x1536 .bf16) :=
  down 12 fun h hh => ⟨Rect.unit (s := S1024x1536) ![0, 128 * h] S1024x128.size (bnd2 (by omega) (by omega)), truncf .bf16 (tile1 t x0 x1 x5 x6 x7 x2 h hh) bitsLt_bf16_f32⟩

/-- The staging buffer after `n` heads of the second group. -/
def stage4 : (n : ℕ) → n ≤ 12 → List (View.Piece (Elt Ideal) S1280x128 .f32)
  | 0, _ => []
  | n + 1, hn => ⟨Rect.unit (s := S1280x128) ![0, 0] S1024x128.size (bnd2 (by omega) (by omega)), shapeCast S1024x128 (tile4 t x0 x1 x5 x6 x7 x3 n hn) shapeCasts_S1024x128_S1024x128⟩ :: stage4 n (Nat.le_of_succ_le hn)

theorem stride_inb {n d r N : ℕ} (h : r + d * (n - 1) < N) : ∀ a : Fin 2, ![n, 128] a = 0 ∨ ![r, 0] a + ![d, 1] a * (![n, 128] a - 1) < ![N, 128] a := fun a => by
  fin_cases a
  · exact .inr h
  · exact .inr (by simp)

theorem bnd4' {a b r c w N W : ℕ} (hr : r + 1 ≤ N) (hc : c + w ≤ W) : ∀ k : Fin 4, ![0, r, 0, c] k + ![1, 1, a, w] k ≤ ![1, N, a, W] k := fun k => by
  fin_cases k <;> simp <;> assumption

/-- Lists of twelve heads, last first. -/
def pile {α : Type} (f : (h : ℕ) → h < 12 → List α) : (n : ℕ) → n ≤ 12 → List α
  | 0, _ => []
  | n + 1, hn => f n hn ++ pile f n (Nat.le_of_succ_le hn)

/-- Head `h`'s stores of the second group: the staged rows of each residue. -/
def heads4 (h : ℕ) (hh : h < 12) : List (View.Piece (Elt Ideal) S1x4x256x1536 .bf16) :=
  down 4 fun r hr => ⟨Rect.unit (s := S1x4x256x1536) ![0, r, 0, 128 * h] S1x1x256x128.size (bnd4' (b := 0) (by omega) (by omega)),
    k0_pay32 (scM0_0.view.readCov (stage4 t x0 x1 x5 x6 x7 x3 (h + 1) hh) (⟨![r, 0], S256x128.size, ![4, 1], stride_inb (by omega)⟩ : LoadRect S1280x128))⟩

def L4 : List (View.Piece (Elt Ideal) S1x4x256x1536 .bf16) := pile (heads4 t x0 x1 x5 x6 x7 x3) 12 (Nat.le_refl _)

/-- The staging buffer's stores of one head of the third group: sixteen rows at every twentieth. -/
def rows16 (T : FVec Ideal S1024x128 .f32) : List (View.Piece (Elt Ideal) S1280x128 .f32) :=
  down 64 fun i hi => ⟨Rect.unit (s := S1280x128) ![20 * i, 0] S16x128.size (bnd2 (by omega) (by omega)),
    shapeCast S16x128 (extractStridedSlice S16x128 ![16 * i, 0] T (slices2 (by omega) (by omega)) : FVec Ideal S16x128 .f32) shapeCasts_S16x128_S16x128⟩

def stage16 : (n : ℕ) → n ≤ 12 → List (View.Piece (Elt Ideal) S1280x128 .f32)
  | 0, _ => stage4 t x0 x1 x5 x6 x7 x3 12 (Nat.le_refl _)
  | n + 1, hn => rows16 (tile16 t x0 x1 x5 x6 x7 x4 n hn) ++ stage16 n (Nat.le_of_succ_le hn)

/-- Head `h`'s stores of the third group. -/
def heads16 (h : ℕ) (hh : h < 12) : List (View.Piece (Elt Ideal) S1x16x64x1536 .bf16) :=
  down 16 fun r hr => ⟨Rect.unit (s := S1x16x64x1536) ![0, r, 0, 128 * h] S1x1x64x128.size (bnd4' (b := 0) (by omega) (by omega)),
    k0_pay188 (scM0_0.view.readCov (stage16 t x0 x1 x5 x6 x7 x3 x4 (h + 1) hh) (⟨![r, 0], S64x128.size, ![20, 1], stride_inb (by omega)⟩ : LoadRect S1280x128))⟩

def L16 : List (View.Piece (Elt Ideal) S1x16x64x1536 .bf16) := pile (heads16 t x0 x1 x5 x6 x7 x3 x4) 12 (Nat.le_refl _)

set_option maxHeartbeats 8000000
variable (c : Dev nD) (x8 : Vec Ideal S256x2048 .f32)
/-- The stores of the normalised rows and of the slab of the gate's weights. -/
theorem run0 : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) x0 x1 x2 x3 x4 x5 x6 x7 x8).1 = [⟨Rect.unit ![0, 0] S1024x1024.size inb_S1024x1024_S1024x1024_0_0, nrm t x0 x1⟩] := rfl
theorem runW : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) x0 x1 x2 x3 x4 x5 x6 x7 x8).2.2.2.2.1 = [⟨Rect.unit ![0, 0] S256x2048.size inb_S256x2048_S256x2048_0_0, k0_pay2 (View.readAt (Elt Ideal) (ms0_8 t).view (Rect.unit ![0, 0] S256x2048.size inb_S256x2048_S256x2048_0_0).toLoadRect ((hs0_8 t).unread x8))⟩] := rfl
/-- The kernel's stores of the three groups are these. -/
theorem run1 : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) x0 x1 x2 x3 x4 x5 x6 x7 x8).2.1 = L1 t x0 x1 x5 x6 x7 x2 := rfl
theorem run4 : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) x0 x1 x2 x3 x4 x5 x6 x7 x8).2.2.1 = L4 t x0 x1 x5 x6 x7 x3 := rfl
theorem run16 : (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) x0 x1 x2 x3 x4 x5 x6 x7 x8).2.2.2.1 = L16 t x0 x1 x5 x6 x7 x3 x4 := rfl

end Cert.QkvTile
end
-- ==== Proof.QkvMath.lean ====
/- The projection to queries, keys and values, as formulas: the normalised rows, the rotary embedding of a head, and where a column of a group's array comes from. -/
module

public import proofs.«01_k».proof.RefQkvIdeal
public import Idealize.ShloMosaic.Lib.Pointwise

@[expose] public section
set_option maxRecDepth 16384
noncomputable section
namespace Cert.QkvMath
open Cert.RefQkvIdeal Idealize.ShloMosaic

/-- A row divided by the root of its mean square, times the gains. -/
def normed (x g : Fin 1024 → EReal) (e : Fin 1024) : EReal :=
  x e * Ideal.rsqrt (Ideal.div (∑ k, x k * x k) (Ideal.ofBits .f32 0x44800000#32) + Ideal.ofBits .f32 0x358637BD#32) * g e

/-- One column of the input projection. -/
def column (n : Fin 1024 → EReal) (W : Vec Ideal S1024x8704 .f32) (b : Vec Ideal S8704 .f32) (u : Fin 8704) : EReal :=
  (∑ e, n e * W (ix2 e u)) + b (ix1 u)

/-- The rotary embedding of the first 32 lanes of a head. -/
def rot (p : Fin 128 → EReal) (c s : Fin 16 → EReal) (l : Fin 128) : EReal :=
  if h : l.val < 16 then p l * c ⟨l.val, h⟩ - p ⟨l.val + 16, by omega⟩ * s ⟨l.val, h⟩
  else if h' : l.val < 32 then p l * c ⟨l.val - 16, by omega⟩ + p ⟨l.val - 16, by omega⟩ * s ⟨l.val - 16, by omega⟩
  else p l

/-- Column `u` of group `g`: queries, keys and values of four heads, queries and keys embedded. -/
def entry (P : Fin 8704 → EReal) (c s : Fin 16 → EReal) (g : Fin 3) (u : Fin 1536) : EReal :=
  let q : Fin 128 → EReal := fun l => P ⟨2048 + (u.val / 512 * 3 + g.val) * 512 + u.val % 512 / 128 * 128 + l.val, by omega⟩
  if u.val < 1024 then rot q c s ⟨u.val % 128, by omega⟩ else q ⟨u.val % 128, by omega⟩

variable (X : Vec Ideal S8x8192x1024 .f32) (C S : Vec Ideal S8192x16 .f32) (G : Vec Ideal S1024 .f32) (W : Vec Ideal S1024x8704 .f32) (b : Vec Ideal S8704 .f32)

/-- The normalised row of a position. -/
def rowAt (n : Fin 8) (s : Fin 8192) : Fin 1024 → EReal := normed (fun e => X (ix3 n s e)) (fun e => G (ix1 e))

/-- The entry of a group's array for a position. -/
def qkv (g : Fin 3) (n : Fin 8) (s : Fin 8192) (u : Fin 1536) : EReal :=
  entry (column (rowAt X G n s) W b) (fun l => C (ix2 s l)) (fun l => S (ix2 s l)) g u

/-- The results: the normalised rows; the groups of dilation 1, 4 and 16, the last two split into their subsequences. -/
def res0 : Vec Ideal S65536x1024 .bf16 := fun y =>
  rowAt X G (⟨(y 0).val / 8192, by have : (y 0).val < 65536 := (y 0).isLt; omega⟩ : Fin 8) (⟨(y 0).val % 8192, by omega⟩ : Fin 8192) (y 1)
def res1 : Vec Ideal S65536x1536 .bf16 := fun y =>
  qkv X C S G W b 0 (⟨(y 0).val / 8192, by have : (y 0).val < 65536 := (y 0).isLt; omega⟩ : Fin 8) (⟨(y 0).val % 8192, by omega⟩ : Fin 8192) (y 1)
def res2 : Vec Ideal S8x4x2048x1536 .bf16 := fun y =>
  qkv X C S G W b 1 (y 0) (⟨(y 2).val * 4 + (y 1).val, by have : (y 2).val < 2048 := (y 2).isLt; have : (y 1).val < 4 := (y 1).isLt; omega⟩ : Fin 8192) (y 3)
def res3 : Vec Ideal S8x16x512x1536 .bf16 := fun y =>
  qkv X C S G W b 2 (y 0) (⟨(y 2).val * 16 + (y 1).val, by have : (y 2).val < 512 := (y 2).isLt; have : (y 1).val < 16 := (y 1).isLt; omega⟩ : Fin 8192) (y 3)

end Cert.QkvMath
end
-- ==== Proof.QkvPoint.lean ====
/- The values of the query, key and value kernel's tiles and stores at one grid point. -/
module

public import proofs.«01_k».proof.Proof.QkvTile
public import proofs.«01_k».proof.Proof.QkvMath
public import Idealize.ShloMosaic.Lib.Pipeline.CanonAppend

@[expose] public section
set_option maxRecDepth 16384
noncomputable section
namespace Cert.QkvPoint
open Cert.QkvIdeal Cert.QkvIdeal.Gen Idealize.ShloMosaic Idealize.ShloMosaic.TcCoe Idealize.SL.Sem
open Cert.AttnBlock (bnd2 down mem_down)
open Cert.QkvTile Cert.QkvMath

/-- The rotary embedding as the kernel computes it: tables over all lanes, neighbours by rotation. -/
def turn (p c s : Fin 128 → EReal) (l : Fin 128) : EReal :=
  p l * c l + (if l.val < 16 then p ⟨(l.val + 16) % 128, by omega⟩ else p ⟨(l.val + 112) % 128, by omega⟩) * s l

variable (t : Fin cfg0.N) (x0 : Vec Ideal S1024x1024 .f32) (x1 : Vec Ideal S1x1024 .f32) (x5 : Vec Ideal S1x4608 .f32) (x6 x7 : Vec Ideal S1024x128 .f32)

/-- The normalised rows of the block. -/
def nrmV (a : Fin 1024) : Fin 1024 → EReal := normed (fun e => x0 (ix2 a e)) (fun e => x1 (ix2 (0 : Fin 1) e))

/-- A load of a box of rows and columns through a whole memref. -/
theorem box_load {e : EltTy} {N W n w r c : ℕ} {M : Memref sig .tc .vmem ⟨2, ![N, W]⟩ e} (hM : M.IsWhole)
    (X : Vec Ideal ⟨2, ![N, W]⟩ e) (hb) (a : Fin n) (b : Fin w) (hr : r + a.val < N) (hc : c + b.val < W) :
    View.readAt (Elt Ideal) M.view (Rect.unit (s := ⟨2, ![N, W]⟩) ![r, c] ![n, w] hb).toLoadRect (hM.unread X) (ix2 a b)
      = X (ix2 (⟨r + a.val, hr⟩ : Fin N) (⟨c + b.val, hc⟩ : Fin W)) := by
  rw [Memref.IsWhole.readAt_unread]
  congr 1
  funext k
  apply Fin.ext
  rw [LoadRect.idx_apply]
  fin_cases k <;> simp

theorem box_load0 {e : EltTy} {N W : ℕ} {M : Memref sig .tc .vmem ⟨2, ![N, W]⟩ e} (hM : M.IsWhole)
    (X : Vec Ideal ⟨2, ![N, W]⟩ e) (hb) (a : Fin N) (b : Fin W) :
    View.readAt (Elt Ideal) M.view (Rect.unit (s := ⟨2, ![N, W]⟩) ![0, 0] ![N, W] hb).toLoadRect (hM.unread X) (ix2 a b) = X (ix2 a b) := by
  rw [box_load hM X hb a b (by omega) (by omega)]
  congr 2 <;> exact Fin.ext (Nat.zero_add _)

theorem nrm_at (a e : Fin 1024) : nrm t x0 x1 (ix2 a e) = nrmV x0 x1 a e := by
  pointwise [nrm, k0_pay3]
  exact congrArg₂ (· * ·) (congrArg₂ (fun p q => p * Ideal.rsqrt (Ideal.div q _ + _)) (box_load0 _ _ _ _ _)
    (Finset.sum_congr rfl fun k _ => congrArg₂ (· * ·) (box_load0 _ _ _ _ _) (box_load0 _ _ _ _ _))) (box_load0 _ _ _ _ _)

theorem cosT_at (a : Fin 1024) (l : Fin 128) : cosT t x6 (ix2 a l) = x6 (ix2 a l) := by
  pointwise [cosT, k0_pay4]
  exact box_load0 _ _ _ _ _

theorem sinT_at (a : Fin 1024) (l : Fin 128) : sinT t x7 (ix2 a l) = x7 (ix2 a l) := by
  pointwise [sinT, k0_pay5]
  exact box_load0 _ _ _ _ _

theorem sel_lane (l : Fin 128) (p q : EReal) : Scalar.select (IntOp.cmpi CmpIPredicate.slt (BitVec.ofNat 32 l.val) 16#32) p q = if l.val < 16 then p else q := by
  have h : IntOp.cmpi CmpIPredicate.slt (BitVec.ofNat 32 l.val) 16#32 = if l.val < 16 then 1#1 else 0#1 := by revert l; decide +kernel
  rw [h]
  split <;> rfl

theorem turned_at (T C S : FVec Ideal S1024x128 .f32) (a : Fin 1024) (l : Fin 128) : turned T C S (ix2 a l) = turn (fun l => T (ix2 a l)) (fun l => C (ix2 a l)) (fun l => S (ix2 a l)) l := by
  pointwise [turned, k0_pay6]
  unfold turn
  rw [sel_lane]
  exact congrArg₂ (fun u v => T (ix2 a l) * C (ix2 a l) + (if l.val < 16 then T (ix2 a u) else T (ix2 a v)) * S (ix2 a l)) (Fin.ext (show (l.val + 128 - 112) % 128 = (l.val + 16) % 128 by omega)) (Fin.ext (show (l.val + 128 - 16) % 128 = (l.val + 112) % 128 by omega))

theorem part_at (P : FVec Ideal S1024x512 .f32) (o : ℕ) (ho : o + 128 ≤ 512) (a : Fin 1024) (l : Fin 128) : part P o ho (ix2 a l) = P (ix2 a (⟨o + l.val, by omega⟩ : Fin 512)) := by
  pointwise [part]

section
variable (M : Memref sig .tc .vmem S1024x1536 .bf16) (hM : M.IsWhole) (x : Vec Ideal S1024x1536 .bf16) (g : ℕ) (hg : g < 3)

/-- One column of a group: a row against the weights' column, plus its bias. -/
def colV (a : Fin 1024) (u : Fin 1536) : EReal :=
  (∑ e, nrmV x0 x1 a e * x (ix2 e u)) + x5 (ix2 (0 : Fin 1) (⟨1536 * g + u.val, by omega⟩ : Fin 4608))

theorem chunk_at (k : ℕ) (hk : k < 3) (a : Fin 1024) (u : Fin 512) : chunk t x0 x1 x5 M hM x g hg k hk (ix2 a u) = colV x0 x1 x5 x g hg a ⟨512 * k + u.val, by omega⟩ := by
  pointwise [chunk, k0_pay17]
  refine congrArg₂ (· + ·) (Finset.sum_congr rfl fun e _ => congrArg₂ (· * ·) (nrm_at t x0 x1 a e) ((box_load hM x _ e u (by omega) (by omega)).trans ?_)) ((box_load (hs0_5 t) x5 _ (0 : Fin 1) u (by decide) (by omega)).trans ?_)
  · exact congrArg (fun e => x (ix2 e _)) (Fin.ext (Nat.zero_add _))
  · exact congrArg₂ (fun p q => x5 (ix2 p q)) (Fin.ext rfl) (Fin.ext (Nat.add_assoc _ _ _))

/-- Head `h` of a group, lane `l`. -/
def tileV (h : ℕ) (hh : h < 12) (a : Fin 1024) (l : Fin 128) : EReal :=
  if h < 8 then turn (fun l => colV x0 x1 x5 x g hg a ⟨128 * h + l.val, by omega⟩) (fun l => x6 (ix2 a l)) (fun l => x7 (ix2 a l)) l
  else colV x0 x1 x5 x g hg a ⟨128 * h + l.val, by omega⟩

theorem tile_at (h : ℕ) (hh : h < 12) (a : Fin 1024) (l : Fin 128) : tile t x0 x1 x5 x6 x7 M hM x g hg h hh (ix2 a l) = tileV x0 x1 x5 x6 x7 x g hg h hh a l := by
  have e : ∀ l : Fin 128, part (chunk t x0 x1 x5 M hM x g hg (h / 4) (by omega)) (128 * (h % 4)) (by omega) (ix2 a l) = colV x0 x1 x5 x g hg a ⟨128 * h + l.val, by omega⟩ := fun l => by
    rw [part_at, chunk_at t x0 x1 x5 M hM x g hg]
    exact congrArg (colV x0 x1 x5 x g hg a) (Fin.ext (by dsimp only; omega))
  unfold tile tileV
  by_cases h8 : h < 8
  · rw [if_pos h8, show Nat.blt h 8 = true from Nat.ble_eq_true_of_le h8, cond_true, turned_at]
    simp only [e, cosT_at, sinT_at]
  · rw [if_neg h8, show Nat.blt h 8 = false from Bool.eq_false_iff.2 fun q => h8 (Nat.le_of_ble_eq_true q), cond_false, e]
end

theorem tileV_congr (x : Vec Ideal S1024x1536 .bf16) (g : ℕ) (hg : g < 3) {h h' : ℕ} (hh hh') {a a' : Fin 1024} {l l' : Fin 128} (e : h = h') (ea : a.val = a'.val) (el : l.val = l'.val) :
    tileV x0 x1 x5 x6 x7 x g hg h hh a l = tileV x0 x1 x5 x6 x7 x g hg h' hh' a' l' := by
  subst e; rw [Fin.ext ea, Fin.ext el]

/-- An entry of a group's block. -/
def valV (x : Vec Ideal S1024x1536 .bf16) (g : ℕ) (hg : g < 3) (a : Fin 1024) (u : Fin 1536) : EReal :=
  tileV x0 x1 x5 x6 x7 x g hg (u.val / 128) (by omega) a ⟨u.val % 128, by omega⟩

theorem down_mem {α : Type} : ∀ {n : ℕ} {f : (i : ℕ) → i < n → α} (i : ℕ) (hi : i < n), f i hi ∈ down n f
  | n + 1, f, i, hi => by
    rcases Nat.lt_succ_iff_lt_or_eq.1 hi with h | rfl
    · exact .tail _ (down_mem (f := fun i hi => f i (Nat.lt_succ_of_lt hi)) i h)
    · exact .head _

theorem mem_pile {α : Type} {f : (h : ℕ) → h < 12 → List α} {p : α} : ∀ {n : ℕ} {hn : n ≤ 12}, p ∈ pile f n hn → ∃ h hh, p ∈ f h hh
  | n + 1, hn, h => by
    rcases List.mem_append.1 h with h | h
    · exact ⟨n, hn, h⟩
    · exact mem_pile h

theorem pile_mem {α : Type} {f : (h : ℕ) → h < 12 → List α} {p : α} : ∀ {n : ℕ} {hn : n ≤ 12} (h : ℕ) (hh : h < 12), h < n → p ∈ f h hh → p ∈ pile f n hn
  | n + 1, hn, h, hh, hl, hp => by
    rcases Nat.lt_succ_iff_lt_or_eq.1 hl with h' | rfl
    · exact List.mem_append_right _ (pile_mem h hh h' hp)
    · exact List.mem_append_left _ hp

/-- The place of a stored entry. -/
theorem box_emb {n w N W r c : ℕ} {hb : ∀ a : Fin 2, ![r, c] a + ![n, w] a ≤ ![N, W] a} (x : (Rect.unit (s := ⟨2, ![N, W]⟩) ![r, c] ![n, w] hb).shape.Idx) :
    ((Rect.unit (s := ⟨2, ![N, W]⟩) ![r, c] ![n, w] hb).emb x 0).val = r + (x 0).val ∧
    ((Rect.unit (s := ⟨2, ![N, W]⟩) ![r, c] ![n, w] hb).emb x 1).val = c + (x 1).val := by
  constructor <;> (rw [Rect.emb_apply]; simp)

/-- Which entries a store covers. -/
theorem mem_box {n w N W r c : ℕ} (hb) {y : Shape.Idx ⟨2, ![N, W]⟩} (h0 : r ≤ (y 0).val ∧ (y 0).val < r + n) (h1 : c ≤ (y 1).val ∧ (y 1).val < c + w) :
    y ∈ (Rect.unit (s := ⟨2, ![N, W]⟩) ![r, c] ![n, w] hb).set := by
  rw [Rect.mem_set_unit]
  intro a
  fin_cases a
  · exact h0
  · exact h1

theorem eta2 {N W : ℕ} (x : Shape.Idx ⟨2, ![N, W]⟩) {a : Fin N} {b : Fin W} (ha : (x 0).val = a.val) (hb : (x 1).val = b.val) : x = ix2 a b := by
  funext k
  fin_cases k
  · exact Fin.ext ha
  · exact Fin.ext hb

/-- A staged head read back at every fourth row. -/
theorem read4 {sp : Space} (v : View sig .tc sp S1280x128 .f32) (T : FVec Ideal S1024x128 .f32) (hb) (rest) (r : ℕ) (hr : r < 4) (hs) (i : Fin 256) (l : Fin 128) :
    View.readCov (Val := Elt Ideal) v (⟨Rect.unit (s := S1280x128) ![0, 0] S1024x128.size hb, T⟩ :: rest) (⟨![r, 0], S256x128.size, ![4, 1], hs⟩ : LoadRect S1280x128) (ix2 i l)
      = T (ix2 (⟨4 * i.val + r, by omega⟩ : Fin 1024) l) := by
  rw [View.readCov_eq_canon']
  let G : Vec Ideal S1280x128 .f32 := fun z => if h : (z 0).val < 1024 then T (ix2 (⟨(z 0).val, h⟩ : Fin 1024) (z 1)) else 0
  have e0 : ((⟨![r, 0], S256x128.size, ![4, 1], hs⟩ : LoadRect S1280x128).idx (ix2 i l) 0).val = r + 4 * i.val := by rw [LoadRect.idx_apply]; rfl
  have e1 : ((⟨![r, 0], S256x128.size, ![4, 1], hs⟩ : LoadRect S1280x128).idx (ix2 i l) 1).val = 0 + 1 * l.val := by rw [LoadRect.idx_apply]; rfl
  refine (View.canon_append_of_pieces (Val := Elt Ideal) G rest [⟨Rect.unit (s := S1280x128) ![0, 0] S1024x128.size hb, T⟩] (fun p hp x => ?_) _ ⟨_, .head _, mem_box hb ⟨by omega, by omega⟩ ⟨by omega, by omega⟩⟩).trans ?_
  · rw [List.mem_singleton] at hp
    subst hp
    have hx : (x 0).val < 1024 := (x 0).isLt
    obtain ⟨p0, p1⟩ := box_emb (hb := hb) x
    refine Eq.trans ?_ (dif_pos (show _ < 1024 by rw [p0]; omega)).symm
    exact congrArg T (eta2 x ((Nat.zero_add _).symm.trans p0.symm) ((Nat.zero_add _).symm.trans p1.symm))
  · refine (dif_pos (show _ < 1024 by rw [e0]; omega)).trans ?_
    exact congrArg₂ (fun p q => T (ix2 p q)) (Fin.ext (by rw [e0]; dsimp only; omega)) (Fin.ext (by rw [e1]; omega))

/-- A head staged in tiles of sixteen rows, read back at every twentieth row. -/
theorem read16 {sp : Space} (v : View sig .tc sp S1280x128 .f32) (T : FVec Ideal S1024x128 .f32) (rest) (r : ℕ) (hr : r < 16) (hs) (i : Fin 64) (l : Fin 128) :
    View.readCov (Val := Elt Ideal) v (rows16 T ++ rest) (⟨![r, 0], S64x128.size, ![20, 1], hs⟩ : LoadRect S1280x128) (ix2 i l)
      = T (ix2 (⟨16 * i.val + r, by omega⟩ : Fin 1024) l) := by
  rw [View.readCov_eq_canon']
  show View.canon (rows16 T ++ rest) ((⟨![r, 0], S64x128.size, ![20, 1], hs⟩ : LoadRect S1280x128).idx (ix2 i l)) = _
  let G : Vec Ideal S1280x128 .f32 := fun z => if h : (z 0).val % 20 < 16 then T (ix2 (⟨16 * ((z 0).val / 20) + (z 0).val % 20, by have : (z 0).val < 1280 := (z 0).isLt; omega⟩ : Fin 1024) (z 1)) else 0
  have e0 : ((⟨![r, 0], S64x128.size, ![20, 1], hs⟩ : LoadRect S1280x128).idx (ix2 i l) 0).val = r + 20 * i.val := by rw [LoadRect.idx_apply]; rfl
  have e1 : ((⟨![r, 0], S64x128.size, ![20, 1], hs⟩ : LoadRect S1280x128).idx (ix2 i l) 1).val = 0 + 1 * l.val := by rw [LoadRect.idx_apply]; rfl
  refine (View.canon_append_of_pieces (Val := Elt Ideal) G rest (rows16 T) (fun p hp x => ?_) _ ⟨_, down_mem i.val i.isLt, mem_box (bnd2 (by omega) (by omega)) ⟨by omega, by omega⟩ ⟨by omega, by omega⟩⟩).trans ?_
  · obtain ⟨k, hk, rfl⟩ := mem_down hp
    have hx : (x 0).val < 16 := (x 0).isLt
    obtain ⟨p0, p1⟩ := box_emb (hb := bnd2 (by omega) (by omega)) x
    refine Eq.trans ?_ (dif_pos (show _ % 20 < 16 by rw [p0]; omega)).symm
    pointwise
    refine congrArg₂ (fun p q => T (ix2 p q)) (Fin.ext ?_) (Fin.ext ?_)
    · show _ = 16 * (_ / 20) + _ % 20
      rw [p0]
      dsimp only; omega
    · exact (Nat.zero_add _).symm.trans p1.symm
  · refine (dif_pos (show _ % 20 < 16 by rw [e0]; omega)).trans ?_
    refine congrArg₂ (fun p q => T (ix2 p q)) (Fin.ext ?_) (Fin.ext (by rw [e1]; omega))
    show 16 * (_ / 20) + _ % 20 = _
    rw [e0]
    dsimp only; omega

/-- Blocks of twelve heads, last first. -/
def cols (T : (h : ℕ) → h < 12 → FVec Ideal S1024x128 .bf16) : List (View.Piece (Elt Ideal) S1024x1536 .bf16) :=
  down 12 fun h hh => ⟨Rect.unit (s := S1024x1536) ![0, 128 * h] S1024x128.size (bnd2 (by omega) (by omega)), T h hh⟩

/-- Blocks side by side make up the array they are blocks of. -/
theorem canon_cols (T : (h : ℕ) → h < 12 → FVec Ideal S1024x128 .bf16) (V : Fin 1024 → Fin 1536 → EReal)
    (hT : ∀ h hh a (l : Fin 128), T h hh (ix2 a l) = V a ⟨128 * h + l.val, by omega⟩) (y : S1024x1536.Idx) :
    View.canon (cols T) y = V (y 0) (y 1) := by
  have hy : (y 1).val < 1536 := (y 1).isLt
  have hy0 : (y 0).val < 1024 := (y 0).isLt
  refine View.canon_apply_of_pieces (Val := Elt Ideal) (e := .bf16) (fun y => V (y 0) (y 1)) (cols T) (fun p hp x => ?_) y
    ⟨_, down_mem ((y 1).val / 128) (by omega), mem_box (bnd2 (by omega) (by omega)) ⟨by omega, by omega⟩ ⟨by omega, by omega⟩⟩
  obtain ⟨h, hh, rfl⟩ := mem_down hp
  obtain ⟨p0, p1⟩ := box_emb (hb := bnd2 (by omega) (by omega)) x
  refine ((congrArg (T h hh) (eta2 x (a := x 0) (b := x 1) rfl rfl)).trans (hT h hh (x 0) (x 1))).trans ?_
  exact congrArg₂ V (Fin.ext ((Nat.zero_add _).symm.trans p0.symm)) (Fin.ext p1.symm)

theorem eta4 {n w : ℕ} (x : Shape.Idx ⟨4, ![1, 1, n, w]⟩) : x = ix4 (0 : Fin 1) (0 : Fin 1) (x 2) (x 3) := by
  have h0 : (x 0).val < 1 := (x 0).isLt
  have h1 : (x 1).val < 1 := (x 1).isLt
  funext k
  fin_cases k
  · exact Fin.ext (by show (x 0).val = 0; omega)
  · exact Fin.ext (by show (x 1).val = 0; omega)
  · rfl
  · rfl

/-- The place of an entry stored in a residue's block. -/
theorem res_emb {w a r c N W : ℕ} {hb : ∀ k : Fin 4, ![0, r, 0, c] k + ![1, 1, a, w] k ≤ ![1, N, a, W] k} (x : (Rect.unit (s := ⟨4, ![1, N, a, W]⟩) ![0, r, 0, c] ![1, 1, a, w] hb).shape.Idx) :
    ((Rect.unit (s := ⟨4, ![1, N, a, W]⟩) ![0, r, 0, c] ![1, 1, a, w] hb).emb x 1).val = r ∧
    ((Rect.unit (s := ⟨4, ![1, N, a, W]⟩) ![0, r, 0, c] ![1, 1, a, w] hb).emb x 2).val = (x 2).val ∧
    ((Rect.unit (s := ⟨4, ![1, N, a, W]⟩) ![0, r, 0, c] ![1, 1, a, w] hb).emb x 3).val = c + (x 3).val := by
  have h1 : (x 1).val < 1 := (x 1).isLt
  refine ⟨?_, ?_, ?_⟩ <;> (rw [Rect.emb_apply]; simp)

theorem mem_res {w a r c N W : ℕ} (hb) {y : Shape.Idx ⟨4, ![1, N, a, W]⟩} (h1 : (y 1).val = r) (h3 : c ≤ (y 3).val ∧ (y 3).val < c + w) :
    y ∈ (Rect.unit (s := ⟨4, ![1, N, a, W]⟩) ![0, r, 0, c] ![1, 1, a, w] hb).set := by
  rw [Rect.mem_set_unit]
  have h0 : (y 0).val < 1 := (y 0).isLt
  have h2 : (y 2).val < a := (y 2).isLt
  intro k
  fin_cases k
  · exact ⟨Nat.zero_le _, by show (y 0).val < 0 + 1; omega⟩
  · exact ⟨by show r ≤ (y 1).val; omega, by show (y 1).val < r + 1; omega⟩
  · exact ⟨Nat.zero_le _, by show (y 2).val < 0 + a; omega⟩
  · exact h3

/-- Blocks of the residues of twelve heads, last first. -/
def residues {N n : ℕ} (T : (h : ℕ) → h < 12 → (r : ℕ) → r < N → FVec Ideal ⟨4, ![1, 1, n, 128]⟩ .bf16) : List (View.Piece (Elt Ideal) ⟨4, ![1, N, n, 1536]⟩ .bf16) :=
  pile (fun h hh => down N fun r hr => ⟨Rect.unit (s := ⟨4, ![1, N, n, 1536]⟩) ![0, r, 0, 128 * h] ![1, 1, n, 128] (bnd4' (b := 0) (by omega) (by omega)), T h hh r hr⟩) 12 (Nat.le_refl _)

/-- Blocks of residues and heads make up the array they are blocks of. -/
theorem canon_res {N n : ℕ} (T : (h : ℕ) → h < 12 → (r : ℕ) → r < N → FVec Ideal ⟨4, ![1, 1, n, 128]⟩ .bf16) (V : Fin N → Fin n → Fin 1536 → EReal)
    (hT : ∀ h hh r hr i (l : Fin 128), T h hh r hr (ix4 (0 : Fin 1) (0 : Fin 1) i l) = V ⟨r, hr⟩ i ⟨128 * h + l.val, by omega⟩) (y : Shape.Idx ⟨4, ![1, N, n, 1536]⟩) :
    View.canon (residues T) y = V (y 1) (y 2) (y 3) := by
  have hy : (y 3).val < 1536 := (y 3).isLt
  have hy1 : (y 1).val < N := (y 1).isLt
  refine View.canon_apply_of_pieces (Val := Elt Ideal) (e := .bf16) (fun y => V (y 1) (y 2) (y 3)) (residues T) (fun p hp x => ?_) y
    ⟨_, pile_mem ((y 3).val / 128) (by omega) (by omega) (down_mem (y 1).val hy1), mem_res (bnd4' (b := 0) (by omega) (by omega)) rfl ⟨by omega, by omega⟩⟩
  obtain ⟨h, hh, hp⟩ := mem_pile hp
  obtain ⟨r, hr, rfl⟩ := mem_down hp
  obtain ⟨p1, p2, p3⟩ := res_emb (hb := bnd4' (b := 0) (by omega) (by omega)) x
  refine ((congrArg (T h hh r hr) (eta4 x)).trans (hT h hh r hr (x 2) (x 3))).trans ?_
  have e : ∀ {u u' : Fin N} {v v' : Fin n} {w w' : Fin 1536}, u = u' → v = v' → w = w' → V u v w = V u' v' w' := fun a b c => by rw [a, b, c]
  exact e (Fin.ext p1.symm) (Fin.ext p2.symm) (Fin.ext p3.symm)

variable (x2 x3 x4 : Vec Ideal S1024x1536 .bf16)

/-- A head's lane as an entry of its group's block. -/
theorem valV_at (x : Vec Ideal S1024x1536 .bf16) (g : ℕ) (hg : g < 3) (h : ℕ) (hh : h < 12) (a : Fin 1024) (l : Fin 128) :
    tileV x0 x1 x5 x6 x7 x g hg h hh a l = valV x0 x1 x5 x6 x7 x g hg a ⟨128 * h + l.val, by omega⟩ :=
  tileV_congr x0 x1 x5 x6 x7 x g hg _ _ (by dsimp only; omega) rfl (by dsimp only; omega)

/-- What the first group's block holds after the stores. -/
theorem canon1 (y : S1024x1536.Idx) : View.canon (L1 t x0 x1 x5 x6 x7 x2) y = valV x0 x1 x5 x6 x7 x2 0 (by decide) (y 0) (y 1) :=
  canon_cols (fun h hh => truncf .bf16 (tile1 t x0 x1 x5 x6 x7 x2 h hh) bitsLt_bf16_f32) (valV x0 x1 x5 x6 x7 x2 0 (by decide))
    (fun h hh a l => (tile_at t x0 x1 x5 x6 x7 (ms0_2 t) (hs0_2 t) x2 0 (by decide) h hh a l).trans (valV_at x0 x1 x5 x6 x7 x2 0 (by decide) h hh a l)) y

theorem pay32_at (v : FVec Ideal S256x128 .f32) (i : Fin 256) (l : Fin 128) : (k0_pay32 (F := Ideal) v (ix4 (0 : Fin 1) (0 : Fin 1) i l) : EReal) = v (ix2 i l) := by
  pointwise [k0_pay32]

theorem pay188_at (v : FVec Ideal S64x128 .f32) (i : Fin 64) (l : Fin 128) : (k0_pay188 (F := Ideal) v (ix4 (0 : Fin 1) (0 : Fin 1) i l) : EReal) = v (ix2 i l) := by
  pointwise [k0_pay188]

theorem same_at (v : FVec Ideal S1024x128 .f32) (i : Fin 1024) (l : Fin 128) : shapeCast S1024x128 v shapeCasts_S1024x128_S1024x128 (ix2 i l) = v (ix2 i l) := by
  pointwise

/-- What the second group's block holds after the stores. -/
theorem canon4 (y : S1x4x256x1536.Idx) : View.canon (L4 t x0 x1 x5 x6 x7 x3) y = valV x0 x1 x5 x6 x7 x3 1 (by decide) ⟨4 * (y 2).val + (y 1).val, by have : (y 2).val < 256 := (y 2).isLt; have : (y 1).val < 4 := (y 1).isLt; omega⟩ (y 3) :=
  canon_res (N := 4) (n := 256)
    (fun h hh r hr => k0_pay32 (scM0_0.view.readCov (stage4 t x0 x1 x5 x6 x7 x3 (h + 1) hh) (⟨![r, 0], S256x128.size, ![4, 1], stride_inb (by omega)⟩ : LoadRect S1280x128)))
    (fun r i u => valV x0 x1 x5 x6 x7 x3 1 (by decide) ⟨4 * i.val + r.val, by omega⟩ u)
    (fun h hh r hr i l => (pay32_at _ i l).trans ((read4 scM0_0.view _ _ _ r hr _ i l).trans ((same_at _ _ l).trans
      ((tile_at t x0 x1 x5 x6 x7 (ms0_3 t) (hs0_3 t) x3 1 (by decide) h hh _ l).trans (valV_at x0 x1 x5 x6 x7 x3 1 (by decide) h hh _ l))))) y

/-- What the third group's block holds after the stores. -/
theorem canon16 (y : S1x16x64x1536.Idx) : View.canon (L16 t x0 x1 x5 x6 x7 x3 x4) y = valV x0 x1 x5 x6 x7 x4 2 (by decide) ⟨16 * (y 2).val + (y 1).val, by have : (y 2).val < 64 := (y 2).isLt; have : (y 1).val < 16 := (y 1).isLt; omega⟩ (y 3) :=
  canon_res (N := 16) (n := 64)
    (fun h hh r hr => k0_pay188 (scM0_0.view.readCov (stage16 t x0 x1 x5 x6 x7 x3 x4 (h + 1) hh) (⟨![r, 0], S64x128.size, ![20, 1], stride_inb (by omega)⟩ : LoadRect S1280x128)))
    (fun r i u => valV x0 x1 x5 x6 x7 x4 2 (by decide) ⟨16 * i.val + r.val, by omega⟩ u)
    (fun h hh r hr i l => (pay188_at _ i l).trans ((read16 scM0_0.view _ _ r hr _ i l).trans
      ((tile_at t x0 x1 x5 x6 x7 (ms0_4 t) (hs0_4 t) x4 2 (by decide) h hh _ l).trans (valV_at x0 x1 x5 x6 x7 x4 2 (by decide) h hh _ l)))) y

end Cert.QkvPoint
end
-- ==== Proof.QkvEntry.lean ====
/- What the query, key and value kernel reads at a grid point, over the arguments. -/
module

public import proofs.«01_k».proof.Proof.QkvPoint

@[expose] public section
set_option maxRecDepth 16384
noncomputable section
namespace Cert.QkvEntry
open Cert.QkvIdeal Cert.QkvIdeal.Gen Idealize.ShloMosaic Idealize.ShloMosaic.TcCoe Idealize.SL.Sem Idealize.ShloMosaic.StableHlo Cert.QkvMath

variable (m : (ℓ : Loc nD τ sig) → Buf (Elt Ideal) ℓ) (c : Dev nD)
abbrev xA : Vec Ideal S8x8192x1024 .f32 := m ((c : Thread nD τ).loc main_arg0)
abbrev cA : Vec Ideal S8192x16 .f32 := m ((c : Thread nD τ).loc main_arg1)
abbrev sA : Vec Ideal S8192x16 .f32 := m ((c : Thread nD τ).loc main_arg2)
abbrev gA : Vec Ideal S1024 .f32 := m ((c : Thread nD τ).loc main_arg3)
abbrev wA : Vec Ideal S1024x8704 .f32 := m ((c : Thread nD τ).loc main_arg4)
abbrev bA : Vec Ideal S8704 .f32 := m ((c : Thread nD τ).loc main_arg5)
abbrev eA : Vec Ideal S16x1024x2048 .f32 := m ((c : Thread nD τ).loc main_arg6)

/-- The windows' blocks, by grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧
    win0_6.index t = ![t.val % 8, 0] ∧ win0_7.index t = ![t.val % 8, 0] ∧ win0_8.index t = ![t.val, 0] ∧ win0_9.index t = ![t.val, 0] ∧ win0_10.index t = ![t.val, 0] ∧
    win0_11.index t = ![t.val / 8, 0, t.val % 8, 0] ∧ win0_12.index t = ![t.val / 8, 0, t.val % 8, 0] ∧ win0_13.index t = ![t.val, 0] :=
  (by decide +kernel : ∀ t : Fin grid0.N, _)

/-- The column of the projection that column `u` of group `g` is. -/
def col (g : Fin 3) (u : Fin 1536) : Fin 8704 := ⟨2048 + (u.val / 512 * 3 + g.val) * 512 + u.val % 512, by omega⟩

/-- Three stretches of 512 columns side by side: of the weights, and of the biases. -/
def wcat (P : FVec Ideal S1024x8704 .bf16) (o o' o'' : ℕ) (h : S1024x8704.Slices ![0, o] S1024x512) (h' : S1024x8704.Slices ![0, o'] S1024x512) (h'' : S1024x8704.Slices ![0, o''] S1024x512) : FVec Ideal S1024x1536 .bf16 :=
  concatenate S1024x1536 1 [⟨S1024x512, extractStridedSlice S1024x512 ![0, o] P h⟩, ⟨S1024x512, extractStridedSlice S1024x512 ![0, o'] P h'⟩, ⟨S1024x512, extractStridedSlice S1024x512 ![0, o''] P h''⟩] concatenates_S1024x512_S1024x512_S1024x512_S1024x1536_d1

def bcat (P : FVec Ideal S1x8704 .f32) (o o' o'' : ℕ) (h : S1x8704.Slices ![0, o] S1x512) (h' : S1x8704.Slices ![0, o'] S1x512) (h'' : S1x8704.Slices ![0, o''] S1x512) : FVec Ideal S1x1536 .f32 :=
  concatenate S1x1536 1 [⟨S1x512, extractStridedSlice S1x512 ![0, o] P h⟩, ⟨S1x512, extractStridedSlice S1x512 ![0, o'] P h'⟩, ⟨S1x512, extractStridedSlice S1x512 ![0, o''] P h''⟩] concatenates_S1x512_S1x512_S1x512_S1x1536_d1

theorem wcat_at (g : Fin 3) (P o o' o'' h h' h'') (ho : o = 2048 + g.val * 512) (ho' : o' = 3584 + g.val * 512) (ho'' : o'' = 5120 + g.val * 512) (e : Fin 1024) (u : Fin 1536) :
    wcat P o o' o'' h h' h'' (ix2 e u) = P (ix2 e (col g u)) := by
  pointwise [wcat]
  have q : ∀ v : Fin 8704, v.val = (col g u).val → P (ix2 e v) = P (ix2 e (col g u)) := fun v hv => congrArg (fun v => P (ix2 e v)) (Fin.ext hv)
  unfold col at q ⊢
  split
  · exact q _ (by dsimp only; omega)
  · split <;> exact q _ (by dsimp only; omega)

theorem bcat_at (g : Fin 3) (P o o' o'' h h' h'') (ho : o = 2048 + g.val * 512) (ho' : o' = 3584 + g.val * 512) (ho'' : o'' = 5120 + g.val * 512) (u : Fin 1536) :
    bcat P o o' o'' h h' h'' (ix2 (0 : Fin 1) u) = P (ix2 (0 : Fin 1) (col g u)) := by
  pointwise [bcat]
  have q : ∀ v : Fin 8704, v.val = (col g u).val → P (ix2 (0 : Fin 1) v) = P (ix2 (0 : Fin 1) (col g u)) := fun v hv => congrArg (fun v => P (ix2 (0 : Fin 1) v)) (Fin.ext hv)
  unfold col at q ⊢
  split
  · exact q _ (by dsimp only; omega)
  · split <;> exact q _ (by dsimp only; omega)

/-- What the host code hands to the kernel. -/
theorem rows : V m c main_v32 = shapeCast S65536x1024 (xA m c) shapeCasts_S8x8192x1024_S65536x1024 := rfl
theorem gains : V m c main_v33 = shapeCast S1x1024 (gA m c) shapeCasts_S1024_S1x1024 := rfl
theorem slab : V m c main_v34 = shapeCast S16384x2048 (eA m c) shapeCasts_S16x1024x2048_S16384x2048 := rfl
theorem weight0 : V m c main_v10 = wcat (truncf .bf16 (wA m c : FVec Ideal S1024x8704 .f32) bitsLt_bf16_f32) 2048 3584 5120 slices_S1024x8704_S1024x512_0_2048 slices_S1024x8704_S1024x512_0_3584 slices_S1024x8704_S1024x512_0_5120 := rfl
theorem weight1 : V m c main_v14 = wcat (truncf .bf16 (wA m c : FVec Ideal S1024x8704 .f32) bitsLt_bf16_f32) 2560 4096 5632 slices_S1024x8704_S1024x512_0_2560 slices_S1024x8704_S1024x512_0_4096 slices_S1024x8704_S1024x512_0_5632 := rfl
theorem weight2 : V m c main_v18 = wcat (truncf .bf16 (wA m c : FVec Ideal S1024x8704 .f32) bitsLt_bf16_f32) 3072 4608 6144 slices_S1024x8704_S1024x512_0_3072 slices_S1024x8704_S1024x512_0_4608 slices_S1024x8704_S1024x512_0_6144 := rfl
abbrev bRow : FVec Ideal S1x8704 .f32 := shapeCast S1x8704 (bA m c) shapeCasts_S8704_S1x8704
theorem bias : V m c main_v31 = (concatenate S1x4608 1 [⟨S1x1536, bcat (bRow m c) 2048 3584 5120 slices_S1x8704_S1x512_0_2048 slices_S1x8704_S1x512_0_3584 slices_S1x8704_S1x512_0_5120⟩,
    ⟨S1x1536, bcat (bRow m c) 2560 4096 5632 slices_S1x8704_S1x512_0_2560 slices_S1x8704_S1x512_0_4096 slices_S1x8704_S1x512_0_5632⟩,
    ⟨S1x1536, bcat (bRow m c) 3072 4608 6144 slices_S1x8704_S1x512_0_3072 slices_S1x8704_S1x512_0_4608 slices_S1x8704_S1x512_0_6144⟩] concatenates_S1x1536_S1x1536_S1x1536_S1x4608_d1 : FVec Ideal S1x4608 .f32) := rfl
theorem cosines : V m c main_v1 = (concatenate S8192x128 1 [⟨S8192x16, cA m c⟩, ⟨S8192x16, cA m c⟩, ⟨S8192x96, broadcastInDim S8192x96 ![] bcast_S_S8192x96 (constant S_ .f32 0x3F800000#32)⟩] concatenates_S8192x16_S8192x16_S8192x96_S8192x128_d1 : FVec Ideal S8192x128 .f32) := rfl
theorem sines : V m c main_v4 = (concatenate S8192x128 1 [⟨S8192x16, Host.negf (sA m c)⟩, ⟨S8192x16, sA m c⟩, ⟨S8192x96, broadcastInDim S8192x96 ![] bcast_S_S8192x96 (constant S_ .f32 0x00000000#32)⟩] concatenates_S8192x16_S8192x16_S8192x96_S8192x128_d1 : FVec Ideal S8192x128 .f32) := rfl

theorem cosines_at (s : Fin 8192) (l : Fin 128) : V m c main_v1 (ix2 s l) = (if h : l.val < 16 then cA m c (ix2 s (⟨l.val, h⟩ : Fin 16)) else if h : l.val - 16 < 16 then cA m c (ix2 s (⟨l.val - 16, h⟩ : Fin 16)) else 1 : EReal) := by
  rw [cosines]
  pointwise

theorem sines_at (s : Fin 8192) (l : Fin 128) : V m c main_v4 (ix2 s l) = (if h : l.val < 16 then - sA m c (ix2 s (⟨l.val, h⟩ : Fin 16)) else if h : l.val - 16 < 16 then sA m c (ix2 s (⟨l.val - 16, h⟩ : Fin 16)) else 0 : EReal) := by
  rw [sines]
  pointwise

theorem bias_at (g : Fin 3) (u : Fin 1536) : V m c main_v31 (ix2 (0 : Fin 1) (⟨1536 * g.val + u.val, by omega⟩ : Fin 4608)) = bA m c (ix1 (col g u)) := by
  have e : ∀ g, bRow m c (ix2 (0 : Fin 1) (col g u)) = bA m c (ix1 (col g u)) := fun g => by pointwise
  rw [bias]
  pointwise
  have k : ∀ v : Fin 1536, v.val = u.val → bRow m c (ix2 (0 : Fin 1) (col g v)) = bA m c (ix1 (col g u)) := fun v hv => by rw [Fin.ext hv]; exact e g
  split
  · obtain rfl : g = 0 := Fin.ext (by show g.val = 0; omega)
    exact (bcat_at 0 (bRow m c) _ _ _ _ _ _ rfl rfl rfl _).trans (k _ (by show 1536 * 0 + u.val = u.val; omega))
  · split
    · obtain rfl : g = 1 := Fin.ext (by show g.val = 1; omega)
      exact (bcat_at 1 (bRow m c) _ _ _ _ _ _ rfl rfl rfl _).trans (k _ (by show 1536 * 1 + u.val - 1536 = u.val; omega))
    · obtain rfl : g = 2 := Fin.ext (by show g.val = 2; omega)
      exact (bcat_at 2 (bRow m c) _ _ _ _ _ _ rfl rfl rfl _).trans (k _ (by show 1536 * 2 + u.val - 1536 - 1536 = u.val; omega))

section
variable (t : Fin cfg0.N) (n : Fin 8) (s : Fin 8192) (a : Fin 1024) (hn : n.val = t.val / 8) (hs : s.val = 1024 * (t.val % 8) + a.val)
include hn hs

theorem blk0 (e : Fin 1024) : iblk m c 0 t (ix2 a e) = xA m c (ix3 n s e) := by
  have ht : t.val < 64 := t.isLt
  refine Eq.trans (b := V m c main_v32 (ix2 (⟨t.val * 1024 + a.val, by omega⟩ : Fin 65536) e)) (by blk_simp [iblk]; blk_ext [idx t]) ?_
  rw [rows]
  pointwise
  refine congrArg (xA m c) (congrArg₂ (fun (p : Fin 8) (q : Fin 8192) => ix3 p q e) (Fin.ext ?_) (Fin.ext ?_)) <;> (dsimp only; omega)

theorem blk6 (l : Fin 128) : iblk m c 6 t (ix2 a l) = V m c main_v1 (ix2 s l) := by
  blk_simp [iblk]; blk_ext [idx t]

theorem blk7 (l : Fin 128) : iblk m c 7 t (ix2 a l) = V m c main_v4 (ix2 s l) := by
  blk_simp [iblk]; blk_ext [idx t]
end

section
variable (t : Fin cfg0.N)

theorem blk1 (e : Fin 1024) : iblk m c 1 t (ix2 (0 : Fin 1) e) = gA m c (ix1 e) := by
  refine Eq.trans (b := V m c main_v33 (ix2 (0 : Fin 1) e)) (by blk_simp [iblk]; blk_ext [idx t]) ?_
  rw [gains]
  pointwise

theorem blk2 (e : Fin 1024) (u : Fin 1536) : iblk m c 2 t (ix2 e u) = wA m c (ix2 e (col 0 u)) := by
  refine Eq.trans (b := V m c main_v10 (ix2 e u)) (by blk_simp [iblk]; blk_ext [idx t]) ?_
  rw [weight0]
  exact wcat_at 0 _ _ _ _ _ _ _ rfl rfl rfl e u

theorem blk3 (e : Fin 1024) (u : Fin 1536) : iblk m c 3 t (ix2 e u) = wA m c (ix2 e (col 1 u)) := by
  refine Eq.trans (b := V m c main_v14 (ix2 e u)) (by blk_simp [iblk]; blk_ext [idx t]) ?_
  rw [weight1]
  exact wcat_at 1 _ _ _ _ _ _ _ rfl rfl rfl e u

theorem blk4 (e : Fin 1024) (u : Fin 1536) : iblk m c 4 t (ix2 e u) = wA m c (ix2 e (col 2 u)) := by
  refine Eq.trans (b := V m c main_v18 (ix2 e u)) (by blk_simp [iblk]; blk_ext [idx t]) ?_
  rw [weight2]
  exact wcat_at 2 _ _ _ _ _ _ _ rfl rfl rfl e u

theorem blk5 (g : Fin 3) (u : Fin 1536) : iblk m c 5 t (ix2 (0 : Fin 1) (⟨1536 * g.val + u.val, by omega⟩ : Fin 4608)) = bA m c (ix1 (col g u)) := by
  refine Eq.trans (b := V m c main_v31 (ix2 (0 : Fin 1) (⟨1536 * g.val + u.val, by omega⟩ : Fin 4608))) (by blk_simp [iblk]; blk_ext [idx t]) ?_
  exact bias_at m c g u

theorem blk8 (r : Fin 256) (u : Fin 2048) : iblk m c 8 t (ix2 r u) = V m c main_v34 (ix2 (⟨t.val * 256 + r.val, by have : t.val < 64 := t.isLt; omega⟩ : Fin 16384) u) := by
  blk_simp [iblk]; blk_ext [idx t]
end

end Cert.QkvEntry
end
-- ==== Proof.QkvKernel.lean ====
/- The query, key and value kernel's results, every entry, over the arguments. -/
module

public import proofs.«01_k».proof.Proof.QkvEntry

@[expose] public section
set_option maxRecDepth 16384
noncomputable section
namespace Cert.QkvKernel
open Cert.QkvIdeal Cert.QkvIdeal.Gen Idealize.ShloMosaic Idealize.ShloMosaic.TcCoe Idealize.SL.Sem Idealize.ShloMosaic.StableHlo
open Cert.QkvMath Cert.QkvTile Cert.QkvPoint Cert.QkvEntry

/-- The kernel's embedding, with the tables of the host code, is the rotary embedding. -/
theorem turn_rot {p C S : Fin 128 → EReal} {c s : Fin 16 → EReal}
    (hC : ∀ l : Fin 128, C l = if h : l.val < 16 then c ⟨l.val, h⟩ else if h : l.val - 16 < 16 then c ⟨l.val - 16, h⟩ else 1)
    (hS : ∀ l : Fin 128, S l = if h : l.val < 16 then - s ⟨l.val, h⟩ else if h : l.val - 16 < 16 then s ⟨l.val - 16, h⟩ else 0) (l : Fin 128) :
    turn p C S l = rot p c s l := by
  unfold turn rot
  rw [hC, hS]
  by_cases h : l.val < 16
  · have e : (⟨(l.val + 16) % 128, by omega⟩ : Fin 128) = ⟨l.val + 16, by omega⟩ := Fin.ext (by dsimp only; omega)
    simp only [dif_pos h, if_pos h, e]
    rw [mul_neg, sub_eq_add_neg]
  · by_cases h' : l.val < 32
    · have e : (⟨(l.val + 112) % 128, by omega⟩ : Fin 128) = ⟨l.val - 16, by omega⟩ := Fin.ext (by dsimp only; omega)
      simp only [dif_neg h, if_neg h, dif_pos h', dif_pos (show l.val - 16 < 16 by omega), e]
    · simp only [dif_neg h, if_neg h, dif_neg h', dif_neg (show ¬ l.val - 16 < 16 by omega), mul_one, mul_zero, add_zero]

variable (m : (ℓ : Loc nD τ sig) → Buf (Elt Ideal) ℓ) (c : Dev nD)

section
variable (t : Fin cfg0.N) (n : Fin 8) (s : Fin 8192) (a : Fin 1024) (hn : n.val = t.val / 8) (hs : s.val = 1024 * (t.val % 8) + a.val)
include hn hs

/-- The normalised row. -/
theorem row_eq : nrmV (iblk m c 0 t) (iblk m c 1 t) a = rowAt (xA m c) (gA m c) n s := by
  unfold nrmV rowAt
  exact congrArg₂ normed (funext fun e => blk0 m c t n s a hn hs e) (funext fun e => blk1 m c t e)

/-- A column of a group. -/
theorem col_eq (x : Vec Ideal S1024x1536 .bf16) (g : Fin 3) (hx : ∀ e u, x (ix2 e u) = wA m c (ix2 e (col g u))) (u : Fin 1536) :
    colV (iblk m c 0 t) (iblk m c 1 t) (iblk m c 5 t) x g.val g.isLt a u = column (rowAt (xA m c) (gA m c) n s) (wA m c) (bA m c) (col g u) := by
  unfold colV column
  rw [row_eq m c t n s a hn hs]
  exact congrArg₂ (· + ·) (Finset.sum_congr rfl fun e _ => congrArg₂ (· * ·) rfl (hx e u)) (blk5 m c t g u)

/-- An entry of a group's block. -/
theorem val_eq (x : Vec Ideal S1024x1536 .bf16) (g : Fin 3) (hx : ∀ e u, x (ix2 e u) = wA m c (ix2 e (col g u))) (u : Fin 1536) :
    valV (iblk m c 0 t) (iblk m c 1 t) (iblk m c 5 t) (iblk m c 6 t) (iblk m c 7 t) x g.val g.isLt a u = qkv (xA m c) (cA m c) (sA m c) (gA m c) (wA m c) (bA m c) g n s u := by
  unfold valV tileV qkv entry
  have q : ∀ l : Fin 128, colV (iblk m c 0 t) (iblk m c 1 t) (iblk m c 5 t) x g.val g.isLt a ⟨128 * (u.val / 128) + l.val, by omega⟩
      = column (rowAt (xA m c) (gA m c) n s) (wA m c) (bA m c) ⟨2048 + (u.val / 512 * 3 + g.val) * 512 + u.val % 512 / 128 * 128 + l.val, by omega⟩ := fun l =>
    (col_eq m c t n s a hn hs x g hx _).trans (congrArg (column _ _ _) (Fin.ext (by unfold col; dsimp only; omega)))
  by_cases h : u.val < 1024
  · rw [if_pos (show u.val / 128 < 8 by omega), if_pos h]
    simp only [q]
    exact turn_rot (fun l => (blk6 m c t n s a hn hs l).trans (cosines_at m c s l)) (fun l => (blk7 m c t n s a hn hs l).trans (sines_at m c s l)) _
  · rw [if_neg (show ¬ u.val / 128 < 8 by omega), if_neg h]
    exact q _
end

/-- One store of a whole block leaves what it stores. -/
theorem canon_whole {e : EltTy} {N W : ℕ} (hb) (T : Vec Ideal ⟨2, ![N, W]⟩ e) (y : Shape.Idx ⟨2, ![N, W]⟩) :
    View.canon (Val := Elt Ideal) [⟨Rect.unit (s := ⟨2, ![N, W]⟩) ![0, 0] ![N, W] hb, T⟩] y = T y := by
  have h0 : (y 0).val < N := (y 0).isLt
  have h1 : (y 1).val < W := (y 1).isLt
  refine View.canon_apply_of_pieces (Val := Elt Ideal) (e := e) T [⟨Rect.unit (s := ⟨2, ![N, W]⟩) ![0, 0] ![N, W] hb, T⟩] (fun p hp x => ?_) y ⟨_, .head _, mem_box hb ⟨by omega, by omega⟩ ⟨by omega, by omega⟩⟩
  rw [List.mem_singleton] at hp
  subst hp
  obtain ⟨p0, p1⟩ := box_emb (hb := hb) x
  exact congrArg T ((eta2 x ((Nat.zero_add _).symm.trans p0.symm) ((Nat.zero_add _).symm.trans p1.symm)).trans (eta2 _ rfl rfl).symm)

theorem slab_at (v : Vec Ideal S256x2048 .f32) (a : Fin 256) (u : Fin 2048) : (k0_pay2 (F := Ideal) v (ix2 a u) : EReal) = v (ix2 a u) := by
  pointwise [k0_pay2]

/-- The results after the run: the normalised rows, the three groups, the gate's weights. -/
theorem final9 : (dats m 0 c).arrAt 9 cfg0.N = res0 (xA m c) (gA m c) := by
  refine (dats m 0 c).arrAt_eq_of_covers 9 _ (by decide +kernel) fun t _ y => ?_
  blk_simp
  rw [after0_9]
  simp only [outsAt0]
  unfold out0_A_9
  rw [run0]
  have ht : t.val < 64 := t.isLt
  refine (View.read_writes_junk_apply_eq_canon _ _ _).trans ?_
  have hy : (y 0).val < 1024 := (y 0).isLt
  have hemb : ((View.whole main_v35_0).slice (win0_9.rect t)).emb y = ix2 (⟨t.val * 1024 + (y 0).val, by omega⟩ : Fin 65536) (y 1) := by blk_ext [idx t]
  rw [hemb]
  refine ((canon_whole _ _ y).trans (congrArg (nrm t _ _) (eta2 y rfl rfl))).trans ((nrm_at t _ _ (y 0) (y 1)).trans ?_)
  exact congrFun (row_eq m c t _ _ (y 0) (show (t.val * 1024 + (y 0).val) / 8192 = t.val / 8 by omega) (show (t.val * 1024 + (y 0).val) % 8192 = 1024 * (t.val % 8) + (y 0).val by omega)) (y 1)

theorem final10 : (dats m 0 c).arrAt 10 cfg0.N = res1 (xA m c) (cA m c) (sA m c) (gA m c) (wA m c) (bA m c) := by
  refine (dats m 0 c).arrAt_eq_of_covers 10 _ (by decide +kernel) fun t _ y => ?_
  blk_simp
  rw [after0_10]
  simp only [outsAt0]
  unfold out0_A_10
  rw [run1]
  have ht : t.val < 64 := t.isLt
  refine (View.read_writes_junk_apply_eq_canon _ _ _).trans ?_
  have hy : (y 0).val < 1024 := (y 0).isLt
  have hemb : ((View.whole main_v35_1).slice (win0_10.rect t)).emb y = ix2 (⟨t.val * 1024 + (y 0).val, by omega⟩ : Fin 65536) (y 1) := by blk_ext [idx t]
  rw [hemb]
  exact (canon1 t (iblk m c 0 t) (iblk m c 1 t) (iblk m c 5 t) (iblk m c 6 t) (iblk m c 7 t) (iblk m c 2 t) y).trans (val_eq m c t _ _ (y 0) (show (t.val * 1024 + (y 0).val) / 8192 = t.val / 8 by omega) (show (t.val * 1024 + (y 0).val) % 8192 = 1024 * (t.val % 8) + (y 0).val by omega) _ 0 (blk2 m c t) (y 1))

theorem final11 : (dats m 0 c).arrAt 11 cfg0.N = res2 (xA m c) (cA m c) (sA m c) (gA m c) (wA m c) (bA m c) := by
  refine (dats m 0 c).arrAt_eq_of_covers 11 _ (by decide +kernel) fun t _ y => ?_
  blk_simp
  rw [after0_11]
  simp only [outsAt0]
  unfold out0_A_11
  rw [run4]
  have ht : t.val < 64 := t.isLt
  refine (View.read_writes_junk_apply_eq_canon _ _ _).trans ?_
  have hy1 : (y 1).val < 4 := (y 1).isLt
  have hy2 : (y 2).val < 256 := (y 2).isLt
  have hemb : ((View.whole main_v35_2).slice (win0_11.rect t)).emb y = ix4 (⟨t.val / 8, by omega⟩ : Fin 8) (⟨(y 1).val, hy1⟩ : Fin 4) (⟨256 * (t.val % 8) + (y 2).val, by omega⟩ : Fin 2048) (y 3) := by blk_ext [idx t]
  rw [hemb]
  exact (canon4 t (iblk m c 0 t) (iblk m c 1 t) (iblk m c 5 t) (iblk m c 6 t) (iblk m c 7 t) (iblk m c 3 t) y).trans (val_eq m c t _ _ _ rfl (show (256 * (t.val % 8) + (y 2).val) * 4 + (y 1).val = 1024 * (t.val % 8) + (4 * (y 2).val + (y 1).val) by omega) _ 1 (blk3 m c t) (y 3))

theorem final12 : (dats m 0 c).arrAt 12 cfg0.N = res3 (xA m c) (cA m c) (sA m c) (gA m c) (wA m c) (bA m c) := by
  refine (dats m 0 c).arrAt_eq_of_covers 12 _ (by decide +kernel) fun t _ y => ?_
  blk_simp
  rw [after0_12]
  simp only [outsAt0]
  unfold out0_A_12
  rw [run16]
  have ht : t.val < 64 := t.isLt
  refine (View.read_writes_junk_apply_eq_canon _ _ _).trans ?_
  have hy1 : (y 1).val < 16 := (y 1).isLt
  have hy2 : (y 2).val < 64 := (y 2).isLt
  have hemb : ((View.whole main_v35_3).slice (win0_12.rect t)).emb y = ix4 (⟨t.val / 8, by omega⟩ : Fin 8) (⟨(y 1).val, hy1⟩ : Fin 16) (⟨64 * (t.val % 8) + (y 2).val, by omega⟩ : Fin 512) (y 3) := by blk_ext [idx t]
  rw [hemb]
  exact (canon16 t (iblk m c 0 t) (iblk m c 1 t) (iblk m c 5 t) (iblk m c 6 t) (iblk m c 7 t) (iblk m c 3 t) (iblk m c 4 t) y).trans (val_eq m c t _ _ _ rfl (show (64 * (t.val % 8) + (y 2).val) * 16 + (y 1).val = 1024 * (t.val % 8) + (16 * (y 2).val + (y 1).val) by omega) _ 2 (blk4 m c t) (y 3))

theorem final13 : (dats m 0 c).arrAt 13 cfg0.N = truncf .bf16 (shapeCast S16384x2048 (eA m c) shapeCasts_S16x1024x2048_S16384x2048 : FVec Ideal S16384x2048 .f32) bitsLt_bf16_f32 := by
  refine (dats m 0 c).arrAt_eq_of_covers 13 _ (by decide +kernel) fun t _ y => ?_
  blk_simp
  rw [after0_13]
  simp only [outsAt0]
  unfold out0_A_13
  rw [runW]
  have ht : t.val < 64 := t.isLt
  refine (View.read_writes_junk_apply_eq_canon _ _ _).trans ?_
  have hy : (y 0).val < 256 := (y 0).isLt
  have hemb : ((View.whole main_v35_4).slice (win0_13.rect t)).emb y = ix2 (⟨t.val * 256 + (y 0).val, by omega⟩ : Fin 16384) (y 1) := by blk_ext [idx t]
  rw [hemb]
  refine ((canon_whole _ _ y).trans (congrArg (k0_pay2 _) (eta2 y rfl rfl))).trans ((slab_at _ (y 0) (y 1)).trans ((box_load0 _ _ _ _ _).trans ?_))
  exact blk8 m c t (y 0) (y 1)

end Cert.QkvKernel
end
-- ==== Proof.QkvRef.lean ====
/- The reference projection to queries, keys and values, every entry. -/
module

public import proofs.«01_k».proof.Proof.QkvMath
public import proofs.«01_k».proof.Proof.Gen.RefQkvIdeal.Run

@[expose] public section
set_option maxRecDepth 16384
noncomputable section
namespace Cert.QkvRef
open Cert.RefQkvIdeal Cert.RefQkvIdeal.Gen Cert.RefQkvIdeal.Value Idealize.ShloMosaic Idealize.ShloMosaic.TcCoe Idealize.SL.Sem Idealize.ShloMosaic.StableHlo Cert.QkvMath

variable (X : FVec Ideal S8x8192x1024 .f32) (C S : FVec Ideal S8192x16 .f32) (G : FVec Ideal S1024 .f32) (W : FVec Ideal S1024x8704 .f32) (b : FVec Ideal S8704 .f32)

/-- The normalised rows. -/
def rows : FVec Ideal S8x8192x1024 .f32 :=
  mulf (mulf X (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf X X) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 G))

/-- The input projection. -/
def proj : FVec Ideal S8x8192x8704 .f32 :=
  addf (Host.dotGeneral dot_S8x8192x1024_S1024x8704_S8x8192x8704_2_0_01_1_n_n none (rows X G) W) (broadcastInDim S8x8192x8704 ![0, 1, 2] bcast_S1x1x8704_S8x8192x8704_0_1_2 (broadcastInDim S1x1x8704 ![2] bcast_S8704_S1x1x8704_2 b))

/-- Four heads of the projection, from column `o`. -/
def heads (P : FVec Ideal S8x8192x8704 .f32) (o : ℕ) (hs : S8x8192x8704.Slices ![0, 0, o] S8x8192x512) : FVec Ideal S8x8192x4x128 .f32 :=
  shapeCast S8x8192x4x128 (extractStridedSlice S8x8192x512 ![0, 0, o] P hs : FVec Ideal S8x8192x512 .f32) shapeCasts_S8x8192x512_S8x8192x4x128

/-- A table at every head. -/
def table (C : FVec Ideal S8192x16 .f32) : FVec Ideal S8x8192x4x16 .f32 :=
  broadcastInDim S8x8192x4x16 ![0, 1, 2, 3] bcast_S1x8192x1x16_S8x8192x4x16_0_1_2_3 (broadcastInDim S1x8192x1x16 ![1, 3] bcast_S8192x16_S1x8192x1x16_1_3 C)

/-- The heads, embedded. -/
def rotary (t : FVec Ideal S8x8192x4x128 .f32) : FVec Ideal S8x8192x4x128 .f32 :=
  fn_main_v50 (F := Ideal)
    (subf (mulf (extractStridedSlice S8x8192x4x16 ![0, 0, 0, 0] t slices_S8x8192x4x128_S8x8192x4x16_0_0_0_0) (table C)) (mulf (extractStridedSlice S8x8192x4x16 ![0, 0, 0, 16] t slices_S8x8192x4x128_S8x8192x4x16_0_0_0_16) (table S)))
    (addf (mulf (extractStridedSlice S8x8192x4x16 ![0, 0, 0, 16] t slices_S8x8192x4x128_S8x8192x4x16_0_0_0_16) (table C)) (mulf (extractStridedSlice S8x8192x4x16 ![0, 0, 0, 0] t slices_S8x8192x4x128_S8x8192x4x16_0_0_0_0) (table S)))
    (extractStridedSlice S8x8192x4x96 ![0, 0, 0, 32] t slices_S8x8192x4x128_S8x8192x4x96_0_0_0_32)

/-- Queries, keys and values side by side. -/
def laid (q k v : FVec Ideal S8x8192x4x128 .f32) : FVec Ideal S8x8192x1536 .f32 :=
  fn_main_v70 (F := Ideal) (shapeCast S8x8192x512 q shapeCasts_S8x8192x4x128_S8x8192x512) (shapeCast S8x8192x512 k shapeCasts_S8x8192x4x128_S8x8192x512) (shapeCast S8x8192x512 v shapeCasts_S8x8192x4x128_S8x8192x512)

theorem rows_at (n s e) : rows X G (ix3 n s e) = rowAt X G n s e := by
  pointwise [rows]
  rfl

theorem proj_at (n s u) : proj X G W b (ix3 n s u) = column (rowAt X G n s) W b u := by
  pointwise [proj, rows_at]
  rfl

theorem heads_at (P o hs n s) (h : Fin 4) (l : Fin 128) (u : Fin 8704) (hu : u.val = o + h.val * 128 + l.val) : heads P o hs (ix4 n s h l) = P (ix3 n s u) := by
  pointwise [heads]
  refine congrArg (fun k => P (ix3 n s k)) (Fin.ext ?_)
  show o + (h.val * 128 + l.val) = u.val
  omega

theorem rotary_at (t n s) (h : Fin 4) (l : Fin 128) : rotary C S t (ix4 n s h l) = rot (fun l => t (ix4 n s h l)) (fun l => C (ix2 s l)) (fun l => S (ix2 s l)) l := by
  have e : ∀ {a a' : Fin 128}, a.val = a'.val → t (ix4 n s h a) = t (ix4 n s h a') := fun q => by rw [Fin.ext q]
  unfold rotary fn_main_v50
  pointwise [table]
  unfold rot
  split
  · exact congrArg (fun z => _ - z * _) (e (Nat.add_comm ..))
  · rename_i h1
    by_cases h2 : l.val < 32
    · rw [dif_pos (by omega), dif_pos h2]
      exact congrArg (fun z => z * _ + _) (e (by dsimp only; omega))
    · rw [dif_neg (by omega), dif_neg h2]
      exact e (by dsimp only; omega)

theorem laid_at (q k v n s) (u : Fin 1536) : laid q k v (ix3 n s u) = (if u.val < 512 then q else if u.val < 1024 then k else v) (ix4 n s (⟨u.val % 512 / 128, by omega⟩ : Fin 4) (⟨u.val % 128, by omega⟩ : Fin 128)) := by
  have e : ∀ (t : FVec Ideal S8x8192x4x128 .f32) {a a' : Fin 4} {c c' : Fin 128}, a.val = a'.val → c.val = c'.val → t (ix4 n s a c) = t (ix4 n s a' c') := fun t _ _ _ _ p q => by rw [Fin.ext p, Fin.ext q]
  unfold laid fn_main_v70
  pointwise
  by_cases h1 : u.val < 512
  · rw [dif_pos h1, if_pos h1]; exact e _ (by dsimp only; omega) rfl
  · by_cases h2 : u.val < 1024
    · rw [dif_neg h1, if_neg h1, dif_pos (by omega), if_pos h2]; exact e _ (by dsimp only; omega) (by dsimp only; omega)
    · rw [dif_neg h1, if_neg h1, dif_neg (by omega), if_neg h2]; exact e _ (by dsimp only; omega) (by dsimp only; omega)

/-- The array of group `g`: its queries, keys and values start at columns `o`, `o + 1536` and `o + 3072` of the projection. -/
theorem group_at (g : Fin 3) (o o' o'' hs hs' hs'') (ho : o = 2048 + g.val * 512) (ho' : o' = 3584 + g.val * 512) (ho'' : o'' = 5120 + g.val * 512) (n s) (u : Fin 1536) :
    laid (rotary C S (heads (proj X G W b) o hs)) (rotary C S (heads (proj X G W b) o' hs')) (heads (proj X G W b) o'' hs'') (ix3 n s u) = qkv X C S G W b g n s u := by
  have e : ∀ {a a' : Fin 8704}, a.val = a'.val → column (rowAt X G n s) W b a = column (rowAt X G n s) W b a' := fun q => by rw [Fin.ext q]
  have r : ∀ (o hs) (k : ℕ) (ho : o = 2048 + (k * 3 + g.val) * 512) (hk : k < 3) (h : Fin 4) (l : Fin 128), heads (proj X G W b) o hs (ix4 n s h l) = column (rowAt X G n s) W b ⟨2048 + (k * 3 + g.val) * 512 + h.val * 128 + l.val, by omega⟩ := fun o hs k ho hk h l => by
    rw [heads_at _ o hs n s h l ⟨2048 + (k * 3 + g.val) * 512 + h.val * 128 + l.val, by omega⟩ (by rw [ho]), proj_at]
  rw [laid_at]
  unfold qkv entry
  dsimp only
  by_cases h1 : u.val < 512
  · rw [if_pos h1, if_pos (by omega), rotary_at]
    refine congrArg (rot · _ _ _) (funext fun l => (r o hs 0 (by omega) (by omega) _ l).trans (e (by dsimp only; omega)))
  · by_cases h2 : u.val < 1024
    · rw [if_neg h1, if_pos h2, if_pos h2, rotary_at]
      refine congrArg (rot · _ _ _) (funext fun l => (r o' hs' 1 (by omega) (by omega) _ l).trans (e (by dsimp only; omega)))
    · rw [if_neg h1, if_neg h2, if_neg h2]
      exact (r o'' hs'' 2 (by omega) (by omega) _ _).trans (e (by dsimp only; omega))

variable (m : (ℓ : Loc nD τ sig) → Buf (Elt Ideal) ℓ) (c : Dev nD)
/-- The arguments. -/
abbrev argX : FVec Ideal S8x8192x1024 .f32 := m ((c.tc : Thread nD τ).loc main_arg0)
abbrev argC : FVec Ideal S8192x16 .f32 := m ((c.tc : Thread nD τ).loc main_arg1)
abbrev argS : FVec Ideal S8192x16 .f32 := m ((c.tc : Thread nD τ).loc main_arg2)
abbrev argG : FVec Ideal S1024 .f32 := m ((c.tc : Thread nD τ).loc main_arg3)
abbrev argW : FVec Ideal S1024x8704 .f32 := m ((c.tc : Thread nD τ).loc main_arg4)
abbrev argB : FVec Ideal S8704 .f32 := m ((c.tc : Thread nD τ).loc main_arg5)

/-- The array of the group whose queries, keys and values start at columns `o`, `o'` and `o''`. -/
def group (o o' o'' : ℕ) (hs : S8x8192x8704.Slices ![0, 0, o] S8x8192x512) (hs' : S8x8192x8704.Slices ![0, 0, o'] S8x8192x512) (hs'' : S8x8192x8704.Slices ![0, 0, o''] S8x8192x512) : FVec Ideal S8x8192x1536 .f32 :=
  laid (rotary C S (heads (proj X G W b) o hs)) (rotary C S (heads (proj X G W b) o' hs')) (heads (proj X G W b) o'' hs'')

theorem group_eq (g : Fin 3) (o o' o'' hs hs' hs'') (ho : o = 2048 + g.val * 512) (ho' : o' = 3584 + g.val * 512) (ho'' : o'' = 5120 + g.val * 512) (n s) (u : Fin 1536) :
    group X C S G W b o o' o'' hs hs' hs'' (ix3 n s u) = qkv X C S G W b g n s u := group_at X C S G W b g o o' o'' hs hs' hs'' ho ho' ho'' n s u

theorem res_rows : truncf .bf16 (shapeCast _ (rows X G) shapeCasts_S8x8192x1024_S65536x1024 : FVec Ideal S65536x1024 .f32) bitsLt_bf16_f32 = res0 X G := by
  funext y
  have h0 : (y 0).val < 65536 := (y 0).isLt
  pointwise
  exact rows_at _ _ _ _ _

end Cert.QkvRef
end
-- ==== Proof.QkvRefOut.lean ====
/- The reference projection's four arrays, as formulas of the arguments. -/
module

public import proofs.«01_k».proof.Proof.QkvRef
public import proofs.«01_k».proof.Proof.Gen.RefQkvIdeal.Run

@[expose] public section
set_option maxRecDepth 16384
noncomputable section
namespace Cert.QkvRefOut
open Cert.RefQkvIdeal Cert.RefQkvIdeal.Gen Cert.RefQkvIdeal.Value Idealize.ShloMosaic Idealize.ShloMosaic.TcCoe Idealize.SL.Sem Idealize.ShloMosaic.StableHlo Cert.QkvMath Cert.QkvRef

variable (m : (ℓ : Loc nD τ sig) → Buf (Elt Ideal) ℓ) (c : Dev nD)
theorem spread1 (P : FVec Ideal S8x8192x1536 .f32) : shapeCast _ (truncf .bf16 (transpose S8x1x8192x1536 [0, 2, 1, 3] (shapeCast S8x8192x1x1536 P shapeCasts_S8x8192x1536_S8x8192x1x1536) transposes_S8x8192x1x1536_S8x1x8192x1536_0_2_1_3) bitsLt_bf16_f32) shapeCasts_S8x1x8192x1536_S65536x1536 = fun y => P (ix3 (⟨(y 0).val / 8192, by have : (y 0).val < 65536 := (y 0).isLt; omega⟩ : Fin 8) (⟨(y 0).val % 8192, by omega⟩ : Fin 8192) (y 1)) := by
  funext y
  have h0 : (y 0).val < 65536 := (y 0).isLt
  pointwise

theorem res_out1_eq : res_out1 m c = res1 (argX m c) (argC m c) (argS m c) (argG m c) (argW m c) (argB m c) := by
  have e : res_out1 m c = shapeCast _ (truncf .bf16 (transpose S8x1x8192x1536 [0, 2, 1, 3] (shapeCast S8x8192x1x1536 (group (argX m c) (argC m c) (argS m c) (argG m c) (argW m c) (argB m c) 2048 3584 5120 slices_S8x8192x8704_S8x8192x512_0_0_2048 slices_S8x8192x8704_S8x8192x512_0_0_3584 slices_S8x8192x8704_S8x8192x512_0_0_5120) shapeCasts_S8x8192x1536_S8x8192x1x1536) transposes_S8x8192x1x1536_S8x1x8192x1536_0_2_1_3) bitsLt_bf16_f32) shapeCasts_S8x1x8192x1536_S65536x1536 := by
    delta res_out1 res_main_v154 group laid fn_main_v70 rotary fn_main_v50 heads table proj rows argX argC argS argG argW argB
    congr 7
  refine (e.trans (spread1 _)).trans (funext fun y => ?_)
  exact group_eq _ _ _ _ _ _ 0 _ _ _ _ _ _ rfl rfl rfl _ _ _

theorem spread2 (P : FVec Ideal S8x8192x1536 .f32) : truncf .bf16 (transpose S8x4x2048x1536 [0, 2, 1, 3] (shapeCast S8x2048x4x1536 P shapeCasts_S8x8192x1536_S8x2048x4x1536) transposes_S8x2048x4x1536_S8x4x2048x1536_0_2_1_3) bitsLt_bf16_f32 = fun y => P (ix3 (y 0) (⟨(y 2).val * 4 + (y 1).val, by have : (y 2).val < 2048 := (y 2).isLt; have : (y 1).val < 4 := (y 1).isLt; omega⟩ : Fin 8192) (y 3)) := by
  funext y
  pointwise

theorem res_out2_eq : res_out2 m c = res2 (argX m c) (argC m c) (argS m c) (argG m c) (argW m c) (argB m c) := by
  have e : res_out2 m c = truncf .bf16 (transpose S8x4x2048x1536 [0, 2, 1, 3] (shapeCast S8x2048x4x1536 (group (argX m c) (argC m c) (argS m c) (argG m c) (argW m c) (argB m c) 2560 4096 5632 slices_S8x8192x8704_S8x8192x512_0_0_2560 slices_S8x8192x8704_S8x8192x512_0_0_4096 slices_S8x8192x8704_S8x8192x512_0_0_5632) shapeCasts_S8x8192x1536_S8x2048x4x1536) transposes_S8x2048x4x1536_S8x4x2048x1536_0_2_1_3) bitsLt_bf16_f32 := by
    delta res_out2 res_main_v112 group laid fn_main_v70 rotary fn_main_v50 heads table proj rows argX argC argS argG argW argB
    congr 7
  refine (e.trans (spread2 _)).trans (funext fun y => ?_)
  exact group_eq _ _ _ _ _ _ 1 _ _ _ _ _ _ rfl rfl rfl _ _ _

theorem spread3 (P : FVec Ideal S8x8192x1536 .f32) : truncf .bf16 (transpose S8x16x512x1536 [0, 2, 1, 3] (shapeCast S8x512x16x1536 P shapeCasts_S8x8192x1536_S8x512x16x1536) transposes_S8x512x16x1536_S8x16x512x1536_0_2_1_3) bitsLt_bf16_f32 = fun y => P (ix3 (y 0) (⟨(y 2).val * 16 + (y 1).val, by have : (y 2).val < 512 := (y 2).isLt; have : (y 1).val < 16 := (y 1).isLt; omega⟩ : Fin 8192) (y 3)) := by
  funext y
  pointwise

theorem res_out3_eq : res_out3 m c = res3 (argX m c) (argC m c) (argS m c) (argG m c) (argW m c) (argB m c) := by
  have e : res_out3 m c = truncf .bf16 (transpose S8x16x512x1536 [0, 2, 1, 3] (shapeCast S8x512x16x1536 (group (argX m c) (argC m c) (argS m c) (argG m c) (argW m c) (argB m c) 3072 4608 6144 slices_S8x8192x8704_S8x8192x512_0_0_3072 slices_S8x8192x8704_S8x8192x512_0_0_4608 slices_S8x8192x8704_S8x8192x512_0_0_6144) shapeCasts_S8x8192x1536_S8x512x16x1536) transposes_S8x512x16x1536_S8x16x512x1536_0_2_1_3) bitsLt_bf16_f32 := by
    delta res_out3 res_main_v151 group laid fn_main_v70 rotary fn_main_v50 heads table proj rows argX argC argS argG argW argB
    congr 7
  refine (e.trans (spread3 _)).trans (funext fun y => ?_)
  exact group_eq _ _ _ _ _ _ 2 _ _ _ _ _ _ rfl rfl rfl _ _ _

end Cert.QkvRefOut
end
-- ==== Proof.QkvClaims.lean ====
/- The claims of the projection to queries, keys and values. -/
module

public import proofs.«01_k».proof.Defs
public import proofs.«01_k».proof.Proof.Gen.Qkv
public import proofs.«01_k».proof.Proof.Gen.Qkv.Frame
public import proofs.«01_k».proof.Proof.QkvKernel
public import proofs.«01_k».proof.Proof.QkvRefOut
public import Idealize.ShloMosaic.Lib.Claim
public import Idealize.ShloMosaic.Lib.Quiescent

@[expose] public section
set_option maxRecDepth 16384
noncomputable section
namespace Cert.QkvClaims
open Idealize.ShloMosaic Idealize.SL.Sem

/-- The kernel ends, its arguments unchanged and its semaphores at rest. -/
theorem frame_p : Cert.quiescent_Qkv := fun m ρ _ => Cert.Qkv.Gen.frame m ρ

/-- So does its ideal reading. -/
theorem frame_pi : Cert.quiescent_QkvIdeal := fun m ρ _ => Cert.QkvIdeal.Gen.frame m ρ

/-- So does the reference. -/
theorem frame_ri : Cert.quiescent_RefQkvIdeal := fun m ρ _ =>
  (θ_run Cert.RefQkvIdeal.defs _ _).mono (fun r h => ⟨fun c => (h c).2.2.2.2.2, sem_eq_zero_of_no_sems (by decide) r.2⟩)
    (Cert.RefQkvIdeal.Value.run (F := Ideal) m ρ)

/-- No operation is rewritten. -/
theorem preserves : Cert.preserves_Qkv_QkvIdeal := trivial

/-- The five results, as formulas of the arguments, agree when the arguments do. -/
theorem same {A B C D E G : Type} {V : Type} (f : A → B → C → D → E → G → V) {a a' b b' c c' d d' e e' g g'} (h : a = a') (h1 : b = b') (h2 : c = c') (h3 : d = d') (h4 : e = e') (h5 : g = g') :
    f a b c d e g = f a' b' c' d' e' g' := by subst h h1 h2 h3 h4 h5; rfl

/-- Kernel and reference compute the same normalised rows, groups and weights. -/
theorem algebraic : Cert.algebraic_QkvIdeal_RefQkvIdeal := by
  pair_intro
  · run_from Cert.QkvIdeal.Value.run_blocks m g
  · run_from Cert.RefQkvIdeal.Value.run m' g'
    · exact (QkvRef.res_rows _ _).trans (QkvKernel.final9 m c).symm
    · refine (QkvRefOut.res_out1_eq m' c).trans (Eq.trans ?_ (QkvKernel.final10 m c).symm)
      exact same QkvMath.res1 (hagree c).1 (hagree c).2.1 (hagree c).2.2.1 (hagree c).2.2.2.1 (hagree c).2.2.2.2.1 (hagree c).2.2.2.2.2.1
    · refine (QkvRefOut.res_out2_eq m' c).trans (Eq.trans ?_ (QkvKernel.final11 m c).symm)
      exact same QkvMath.res2 (hagree c).1 (hagree c).2.1 (hagree c).2.2.1 (hagree c).2.2.2.1 (hagree c).2.2.2.2.1 (hagree c).2.2.2.2.2.1
    · refine (QkvRefOut.res_out3_eq m' c).trans (Eq.trans ?_ (QkvKernel.final12 m c).symm)
      exact same QkvMath.res3 (hagree c).1 (hagree c).2.1 (hagree c).2.2.1 (hagree c).2.2.2.1 (hagree c).2.2.2.2.1 (hagree c).2.2.2.2.2.1
    · exact (QkvKernel.final13 m c).symm

end Cert.QkvClaims
end
-- ==== Proof.lean ====
/- The claims, assembled. -/
module

public import proofs.«01_k».proof.Defs
public import proofs.«01_k».proof.Proof.AttnClaims
public import proofs.«01_k».proof.Proof.FfnClaims
public import proofs.«01_k».proof.Proof.ProjClaims
public import proofs.«01_k».proof.Proof.QkvClaims
public import Idealize.ShloMosaic.Adequacy
public import Idealize.ShloMosaic.Init

@[expose] public section

noncomputable section

namespace Cert.Proof

/-- Everything the statement claims. -/
theorem claim : Cert.Claim :=
  ⟨Cert.Attn1.Gen.facts, Cert.Attn1Ideal.Gen.facts, Cert.RefAttn1Ideal.Gen.facts,
    Cert.Ffn.Gen.facts, Cert.FfnIdeal.Gen.facts, Cert.RefFfnIdeal.Gen.facts,
    Cert.Proj.Gen.facts, Cert.ProjIdeal.Gen.facts, Cert.RefProjIdeal.Gen.facts,
    Cert.Qkv.Gen.facts, Cert.QkvIdeal.Gen.facts, Cert.RefQkvIdeal.Gen.facts,
    AttnClaims.frame_p, AttnClaims.frame_pi, AttnClaims.frame_ri, FfnClaims.frame_p, FfnClaims.frame_pi, FfnClaims.frame_ri,
    ProjClaims.frame_p, ProjClaims.frame_pi, ProjClaims.frame_ri,
    QkvClaims.frame_p, QkvClaims.frame_pi, QkvClaims.frame_ri,
    AttnClaims.preserves, AttnClaims.algebraic, FfnClaims.preserves, FfnClaims.algebraic, ProjClaims.preserves, ProjClaims.algebraic,
    QkvClaims.preserves, QkvClaims.algebraic⟩

end Cert.Proof

end
